-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_float [hPre_gain_float : Cert.Pre_gain_float.Facts] (m : (ℓ : Loc Cert.KernelIdeal.nD Cert.KernelIdeal.τ Cert.KernelIdeal.sig) → Buf (Elt Ideal) ℓ) : Prop :=
  ∀ c : Dev Cert.KernelIdeal.nD,
    (Cert.Pre_gain_float.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_float [hPre_gain_float : Cert.Pre_gain_float.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_float.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_float [hKernelIdeal : Cert.KernelIdeal.Facts] [hPre_gain_float : Cert.Pre_gain_float.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_float m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_float [hReferenceIdeal : Cert.ReferenceIdeal.Facts] [hPre_gain_float : Cert.Pre_gain_float.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_float m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gain_float [hKernelIdeal : Cert.KernelIdeal.Facts] [hReferenceIdeal : Cert.ReferenceIdeal.Facts] [hPre_gain_float : Cert.Pre_gain_float.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_float m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_float : Cert.Pre_gain_float.Facts),
    quiescent_Kernel (hKernel := hKernel)
    ∧ quiescent_KernelIdeal (hKernelIdeal := hKernelIdeal)
    ∧ quiescent_KernelIdeal_pre_gain_float (hKernelIdeal := hKernelIdeal) (hPre_gain_float := hPre_gain_float)
    ∧ quiescent_ReferenceIdeal (hReferenceIdeal := hReferenceIdeal)
    ∧ quiescent_ReferenceIdeal_pre_gain_float (hReferenceIdeal := hReferenceIdeal) (hPre_gain_float := hPre_gain_float)
    ∧ preserves_Kernel_KernelIdeal
    ∧ algebraic_KernelIdeal_ReferenceIdeal_pre_gain_float (hKernelIdeal := hKernelIdeal) (hReferenceIdeal := hReferenceIdeal) (hPre_gain_float := hPre_gain_float)
-- ==== Pre_gain_float.lean ====
abbrev S4x4096x2048 : Shape := ⟨3, ![4, 4096, 2048]⟩
abbrev S2048 : Shape := ⟨1, ![2048]⟩
abbrev S2048x6144 : Shape := ⟨2, ![2048, 6144]⟩
abbrev S6144 : Shape := ⟨1, ![6144]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S4x4096x2048 .f32) (main_arg1 : FVec F S4x4096x2048 .f32) (main_arg2 : FVec F S2048 .f32) (main_arg3 : FVec F S2048x6144 .fp8e4m3) (main_arg4 : FVec F S6144 .f32) : IVec S2048 1 :=
  let main_v0 : FVec F S2048 .f32 := Host.absf main_arg2
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_v3 : FVec F S2048 .f32 := Host.absf main_arg2
  let main_cst_0 : FVec F S_ .f32 := constant S_ .f32 0x7F800000#32
  let main_v4 : FVec F S2048 .f32 := broadcastInDim S2048 ![] bcast_S_S2048 main_cst_0
  let main_v5 : IVec S2048 1 := cmpf .oeq main_v3 main_v4
  let main_v6 : IVec S2048 1 := ori main_v2 main_v5
  main_v6
-- ==== Kernel.lean ====
abbrev S4x4096x2048 : Shape := ⟨3, ![4, 4096, 2048]⟩
abbrev S2048 : Shape := ⟨1, ![2048]⟩
abbrev S2048x6144 : Shape := ⟨2, ![2048, 6144]⟩
abbrev S6144 : Shape := ⟨1, ![6144]⟩
abbrev S16384x2048 : Shape := ⟨2, ![16384, 2048]⟩
abbrev S1x2048 : Shape := ⟨2, ![1, 2048]⟩
abbrev S1x6144 : Shape := ⟨2, ![1, 6144]⟩
abbrev S16384x6144 : Shape := ⟨2, ![16384, 6144]⟩
abbrev S16384x1 : Shape := ⟨2, ![16384, 1]⟩
abbrev S256x2048 : Shape := ⟨2, ![256, 2048]⟩
abbrev S256x6144 : Shape := ⟨2, ![256, 6144]⟩
abbrev S256x1 : Shape := ⟨2, ![256, 1]⟩
abbrev S256 : Shape := ⟨1, ![256]⟩
abbrev S256x256 : Shape := ⟨2, ![256, 256]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048, .f32⟩
  | .hbm, ⟨3, _⟩ => ⟨S2048x6144, .fp8e4m3⟩
  | .hbm, ⟨4, _⟩ => ⟨S6144, .f32⟩
  | .hbm, ⟨5, _⟩ => ⟨S16384x2048, .f32⟩
  | .hbm, ⟨6, _⟩ => ⟨S16384x2048, .f32⟩
  | .hbm, ⟨7, _⟩ => ⟨S1x2048, .f32⟩
  | .hbm, ⟨8, _⟩ => ⟨S1x6144, .f32⟩
  | .hbm, ⟨9, _⟩ => ⟨S16384x6144, .f32⟩
  | .hbm, ⟨10, _⟩ => ⟨S16384x2048, .f32⟩
  | .hbm, ⟨11, _⟩ => ⟨S16384x2048, .fp8e4m3⟩
  | .hbm, ⟨12, _⟩ => ⟨S16384x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x6144, .fp8e4m3⟩
  | .local _ .vmem, ⟨6, _⟩ => ⟨S1x6144, .f32⟩
  | .local _ .vmem, ⟨7, _⟩ => ⟨S256x6144, .f32⟩
  | .local _ .vmem, ⟨8, _⟩ => ⟨S256x6144, .f32⟩
  | .local _ .vmem, ⟨9, _⟩ => ⟨S256x2048, .f32⟩
  | .local _ .vmem, ⟨10, _⟩ => ⟨S256x2048, .f32⟩
  | .local _ .vmem, ⟨11, _⟩ => ⟨S256x2048, .fp8e4m3⟩
  | .local _ .vmem, ⟨12, _⟩ => ⟨S256x2048, .fp8e4m3⟩
  | .local _ .vmem, ⟨13, _⟩ => ⟨S256x1, .f32⟩
  | .local _ .vmem, ⟨14, _⟩ => ⟨S256x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x4096x2048 : Shape := ⟨3, ![4, 4096, 2048]⟩
abbrev S2048 : Shape := ⟨1, ![2048]⟩
abbrev S2048x6144 : Shape := ⟨2, ![2048, 6144]⟩
abbrev S6144 : Shape := ⟨1, ![6144]⟩
abbrev S16384x2048 : Shape := ⟨2, ![16384, 2048]⟩
abbrev S1x2048 : Shape := ⟨2, ![1, 2048]⟩
abbrev S1x6144 : Shape := ⟨2, ![1, 6144]⟩
abbrev S16384x6144 : Shape := ⟨2, ![16384, 6144]⟩
abbrev S16384x1 : Shape := ⟨2, ![16384, 1]⟩
abbrev S16384 : Shape := ⟨1, ![16384]⟩

abbrev nBuf : Space → Nat
  | .hbm => 13
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048, .f32⟩
  | .hbm, ⟨3, _⟩ => ⟨S2048x6144, .fp8e4m3⟩
  | .hbm, ⟨4, _⟩ => ⟨S6144, .f32⟩
  | .hbm, ⟨5, _⟩ => ⟨S16384x2048, .f32⟩
  | .hbm, ⟨6, _⟩ => ⟨S16384x2048, .f32⟩
  | .hbm, ⟨7, _⟩ => ⟨S1x2048, .f32⟩
  | .hbm, ⟨8, _⟩ => ⟨S1x6144, .f32⟩
  | .hbm, ⟨9, _⟩ => ⟨S16384x6144, .f32⟩
  | .hbm, ⟨10, _⟩ => ⟨S16384x2048, .f32⟩
  | .hbm, ⟨11, _⟩ => ⟨S16384x2048, .fp8e4m3⟩
  | .hbm, ⟨12, _⟩ => ⟨S16384x1, .f32⟩
  | .local _ .vmem, ⟨0, _⟩ => ⟨S16384x2048, .f32⟩
  | .local _ .vmem, ⟨1, _⟩ => ⟨S16384x2048, .f32⟩
  | .local _ .vmem, ⟨2, _⟩ => ⟨S1x2048, .f32⟩
  | .local _ .vmem, ⟨3, _⟩ => ⟨S2048x6144, .fp8e4m3⟩
  | .local _ .vmem, ⟨4, _⟩ => ⟨S1x6144, .f32⟩
  | .local _ .vmem, ⟨5, _⟩ => ⟨S16384x6144, .f32⟩
  | .local _ .vmem, ⟨6, _⟩ => ⟨S16384x2048, .f32⟩
  | .local _ .vmem, ⟨7, _⟩ => ⟨S16384x2048, .fp8e4m3⟩
  | .local _ .vmem, ⟨8, _⟩ => ⟨S16384x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelRun.lean ====
/- The kernel's run with its four result arrays named, and each array block by block: what a grid point writes back, and
   that the blocks of two points are disjoint. Copied from the generated value module of the same program. -/
module

public import proofs.«01_k».proof.Proof.Gen.KernelIdeal.Frame
public import Idealize.ShloMosaic.Lib.Pipeline.Value

@[expose] public section

noncomputable section

namespace Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 64 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x6144.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 64 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x2048.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x1.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

end Cert.KernelIdeal.Run

end
-- ==== Proof.Exponent.lean ====
/- The power-of-two scale, as a fact about one extended real: the kernel's word arithmetic on a counted exponent and
   the reference's logarithm give the same scale and the same reciprocal. Nothing here mentions either program. -/
module

public import Idealize.ShloMosaic.Lib.Pointwise

@[expose] public section

noncomputable section

namespace Cert.Exponent

open Idealize.ShloMosaic

/-! ## Words that are powers of two -/

/-- A float word with a clear sign, a zero fraction and exponent field `n` between 1 and 254 is the real `2 ^ (n - 127)`. -/
theorem ofBits_pow (b : BitVec 32) (n : ℕ) (hs : b.extractLsb' 31 1 = 0#1) (hx : (b.extractLsb' 23 8).toNat = n)
    (hf : (b.extractLsb' 0 23).toNat = 0) (h1 : 1 ≤ n) (h2 : n ≤ 254) :
    Ideal.ofBits .f32 b = (((2 : ℝ) ^ ((n : ℤ) - 127) : ℝ) : EReal) := by
  have hs' : b.extractLsb' (8 + 23) 1 = 0#1 := hs
  simp only [Ideal.ofBits, Ideal.ieee, hs', hx, hf]
  rw [if_neg (by omega), if_neg (by omega)]
  norm_num
  rw [← EReal.coe_mul, EReal.coe_eq_coe_iff, show (8388608 : ℝ) = (2 : ℝ) ^ (23 : ℤ) by norm_num, ← zpow_add₀ (by norm_num : (2 : ℝ) ≠ 0)]
  congr 1
  ring

/-- The word of 0.5 to the eleventh, the kernel's reciprocal of the row length. -/
theorem ofBits_mean : Ideal.ofBits .f32 0x3A000000#32 = (((2 : ℝ) ^ (-11 : ℤ) : ℝ) : EReal) :=
  ofBits_pow _ 116 (by decide) (by decide) (by decide) (by norm_num) (by norm_num)

/-- The word of the row length 2048. -/
theorem ofBits_len : Ideal.ofBits .f32 0x45000000#32 = (((2 : ℝ) ^ (11 : ℤ) : ℝ) : EReal) :=
  ofBits_pow _ 138 (by decide) (by decide) (by decide) (by norm_num) (by norm_num)

/-- The word of the least normal number. -/
theorem ofBits_tiny : Ideal.ofBits .f32 0x00800000#32 = (((2 : ℝ) ^ (-126 : ℤ) : ℝ) : EReal) :=
  ofBits_pow _ 1 (by decide) (by decide) (by decide) (by norm_num) (by norm_num)

/-- The word of two. -/
theorem ofBits_two : Ideal.ofBits .f32 0x40000000#32 = ((2 : ℝ) : EReal) := by
  rw [ofBits_pow _ 128 (by decide) (by decide) (by decide) (by norm_num) (by norm_num)]; norm_num

/-- The word of plus infinity. -/
theorem ofBits_inf : Ideal.ofBits .f32 0x7F800000#32 = ⊤ := by
  simp [Ideal.ofBits, Ideal.ieee]

/-- The word of minus infinity. -/
theorem ofBits_neg_inf : Ideal.ofBits .f32 0xFF800000#32 = ⊥ := by
  simp [Ideal.ofBits, Ideal.ieee]

/-- The rounded reciprocal of 448 is a positive real below `2 ^ -8`. -/
theorem ofBits_recip : ∃ c : ℝ, Ideal.ofBits .f32 0x3B124925#32 = (c : EReal) ∧ 0 < c ∧ c < (2 : ℝ) ^ (-8 : ℤ) := by
  refine ⟨_, by simp [Ideal.ofBits, Ideal.ieee]; rfl, by positivity, ?_⟩
  norm_num

/-- The rounded epsilon is a positive real. -/
theorem ofBits_eps : ∃ e : ℝ, Ideal.ofBits .f32 0x358637BD#32 = (e : EReal) ∧ 0 < e := by
  refine ⟨_, by simp [Ideal.ofBits, Ideal.ieee]; rfl, by positivity⟩

/-- The largest finite word is a positive real below `2 ^ 128`. -/
theorem ofBits_max : ∃ M : ℝ, Ideal.ofBits .f32 0x7F7FFFFF#32 = (M : EReal) ∧ 0 < M ∧ M < (2 : ℝ) ^ (128 : ℤ) := by
  refine ⟨_, by simp [Ideal.ofBits, Ideal.ieee]; rfl, by positivity, ?_⟩
  norm_num

/-! ## The counted exponent -/

/-- The thresholds the kernel counts against: lane `t` holds the float whose exponent field is `t`. -/
def thr (t : Fin 256) : EReal := Ideal.ofBits .f32 (IntOp.shli .vector (BitVec.ofNat 32 t.val) 23#32)

/-- The fields of the word with `t` in its exponent field. -/
theorem thr_fields : ∀ t : Fin 256, (IntOp.shli .vector (BitVec.ofNat 32 t.val) 23#32).extractLsb' 31 1 = 0#1
    ∧ ((IntOp.shli .vector (BitVec.ofNat 32 t.val) 23#32).extractLsb' 23 8).toNat = t.val
    ∧ ((IntOp.shli .vector (BitVec.ofNat 32 t.val) 23#32).extractLsb' 0 23).toNat = 0 := by
  decide +kernel

/-- A threshold strictly inside the range is a power of two. -/
theorem thr_pow (t : Fin 256) (h1 : 1 ≤ t.val) (h2 : t.val ≤ 254) :
    thr t = (((2 : ℝ) ^ ((t.val : ℤ) - 127) : ℝ) : EReal) :=
  ofBits_pow _ t.val (thr_fields t).1 (thr_fields t).2.1 (thr_fields t).2.2 h1 h2

/-- The first threshold is zero. -/
theorem thr_zero : thr 0 = 0 := by
  have : IntOp.shli .vector (BitVec.ofNat 32 (0 : Fin 256).val) 23#32 = 0x00000000#32 := by decide
  rw [thr, this, Ideal.ofBits_zero_f32]

/-- The last threshold is plus infinity. -/
theorem thr_last : thr 255 = ⊤ := by
  have : IntOp.shli .vector (BitVec.ofNat 32 (255 : Fin 256).val) 23#32 = 0x7F800000#32 := by decide
  rw [thr, this, ofBits_inf]

/-- Adding up widened one-bit words counts them. -/
theorem fold_count {ι : Type} [DecidableEq ι] (s : Finset ι) (p : ι → Bool) :
    s.fold IntOp.addi 0#32 (fun t => BitVec.setWidth 32 (BitVec.ofBool (p t))) = BitVec.ofNat 32 (s.filter (fun t => p t = true)).card := by
  induction s using Finset.induction_on with
  | empty => rfl
  | insert a s ha ih =>
    rw [Finset.fold_insert ha, ih, Finset.filter_insert]
    cases hp : p a
    · show BitVec.setWidth 32 (BitVec.ofBool false) + _ = _
      simp
    · have : a ∉ s.filter (fun t => p t = true) := fun h => ha (Finset.mem_filter.mp h).1
      show BitVec.setWidth 32 (BitVec.ofBool true) + _ = _
      rw [if_pos rfl, Finset.card_insert_of_notMem this, BitVec.ofNat_add, BitVec.add_comm]
      rfl

/-- The kernel's exponent field of `v`: 255 less the number of thresholds above `|v|`. -/
def biased (v : EReal) : BitVec 32 :=
  IntOp.subi 255#32 (Finset.univ.fold IntOp.addi 0#32
    (fun t : Fin 256 => BitVec.setWidth 32 (BitVec.ofBool (decide (max v (-v) < thr t)))))

/-- If exactly the thresholds past `N` are above `|v|`, the exponent field is `N`. -/
theorem biased_eq (v : EReal) (N : Fin 256) (h : ∀ t : Fin 256, max v (-v) < thr t ↔ N < t) :
    biased v = BitVec.ofNat 32 N.val := by
  have e : (Finset.univ.filter fun t : Fin 256 => decide (max v (-v) < thr t) = true) = Finset.Ioi N := by
    ext t
    rw [Finset.mem_filter, Finset.mem_Ioi, decide_eq_true_iff, h t]
    simp
  rw [biased, fold_count, e, Fin.card_Ioi]
  revert N
  have : ∀ N : Fin 256, IntOp.subi 255#32 (BitVec.ofNat 32 (256 - 1 - N.val)) = BitVec.ofNat 32 N.val := by decide +kernel
  intro N _ _
  exact this N

/-- Below the least normal number the exponent field is zero. -/
theorem biased_small {v : EReal} (h0 : 0 ≤ v) (h : v < (((2 : ℝ) ^ (-126 : ℤ) : ℝ) : EReal)) : biased v = 0#32 := by
  refine biased_eq v 0 fun t => ?_
  have habs : max v (-v) = v := max_eq_left ((EReal.neg_le_neg_iff.mpr h0).trans (by simpa using h0))
  rw [habs]
  constructor
  · intro hv
    refine Fin.pos_of_ne_zero fun ht => ?_
    rw [ht, thr_zero] at hv
    exact absurd hv (not_lt.mpr h0)
  · intro ht
    have h1 : 1 ≤ t.val := ht
    rcases Nat.lt_or_ge t.val 255 with h2 | h2
    · refine h.trans_le ?_
      rw [thr_pow t h1 (by omega), EReal.coe_le_coe_iff]
      exact zpow_le_zpow_right₀ (by norm_num) (by omega)
    · have : t = 255 := Fin.ext (by have := t.isLt; show t.val = 255; omega)
      rw [this, thr_last]
      exact h.trans (EReal.coe_lt_top _)

/-- Between `2 ^ (N - 127)` and `2 ^ (N - 126)` the exponent field is `N`. -/
theorem biased_mid {y : ℝ} (N : ℕ) (h1 : 1 ≤ N) (h2 : N ≤ 253) (hl : (2 : ℝ) ^ ((N : ℤ) - 127) ≤ y)
    (hu : y < (2 : ℝ) ^ ((N : ℤ) - 126)) : biased (y : EReal) = BitVec.ofNat 32 N := by
  have hy : 0 ≤ y := le_trans (by positivity) hl
  have habs : max (y : EReal) (-(y : EReal)) = y := max_eq_left (by
    rw [← EReal.coe_neg, EReal.coe_le_coe_iff]; linarith)
  refine biased_eq _ ⟨N, by omega⟩ fun t => ?_
  rw [habs]
  rcases Nat.eq_zero_or_pos t.val with h0 | hp
  · have : t = 0 := Fin.ext h0
    rw [this, thr_zero]
    constructor
    · intro h; exact absurd h (not_lt.mpr (EReal.coe_nonneg.mpr hy))
    · intro h; exact absurd h (by simp [Fin.lt_def])
  rcases Nat.lt_or_ge t.val 255 with h3 | h3
  · rw [thr_pow t hp (by omega), EReal.coe_lt_coe_iff, Fin.lt_def]
    constructor
    · intro h
      by_contra hc
      have : (2 : ℝ) ^ ((t.val : ℤ) - 127) ≤ (2 : ℝ) ^ ((N : ℤ) - 127) :=
        zpow_le_zpow_right₀ (by norm_num) (by simp at hc; omega)
      linarith
    · intro h
      have : (2 : ℝ) ^ ((N : ℤ) - 126) ≤ (2 : ℝ) ^ ((t.val : ℤ) - 127) :=
        zpow_le_zpow_right₀ (by norm_num) (by simp at h; omega)
      linarith
  · have : t = 255 := Fin.ext (by have := t.isLt; show t.val = 255; omega)
    rw [this, thr_last]
    exact ⟨fun _ => by show N < 255; omega, fun _ => EReal.coe_lt_top _⟩

/-! ## The two scales -/

/-- The kernel's exponent word of a row maximum. -/
def expK (a : EReal) : BitVec 32 :=
  Scalar.select (IntOp.ori (IntOp.ori (IntOp.cmpi .eq (biased (a * Ideal.ofBits .f32 0x3B124925#32)) 0#32)
      (IntOp.cmpi .eq (biased (a * Ideal.ofBits .f32 0x3B124925#32)) 255#32)) (BitVec.ofBool (decide (a = 0))))
    0#32 (IntOp.subi (biased (a * Ideal.ofBits .f32 0x3B124925#32)) 126#32)

/-- The kernel's scale: the float with exponent field `127 + e`. -/
def scaleK (a : EReal) : EReal := Ideal.ofBits .f32 (IntOp.shli .vector (IntOp.addi 127#32 (expK a)) 23#32)

/-- The kernel's reciprocal scale: the float with exponent field `127 - e`. -/
def invK (a : EReal) : EReal := Ideal.ofBits .f32 (IntOp.shli .vector (IntOp.subi 127#32 (expK a)) 23#32)

/-- The reference's exponent of a row maximum. -/
def expR (a : EReal) : EReal :=
  if a = 0 then 0
  else if a * Ideal.ofBits .f32 0x3B124925#32 < Ideal.ofBits .f32 0x00800000#32 ∨ a * Ideal.ofBits .f32 0x3B124925#32 = Ideal.ofBits .f32 0x7F800000#32 then 0
  else Ideal.liftRound Int.floor (Ideal.div (Ideal.log (a * Ideal.ofBits .f32 0x3B124925#32)) (Ideal.log (Ideal.ofBits .f32 0x40000000#32))) + 1

/-- The reference's scale. -/
def scaleR (a : EReal) : EReal := Ideal.exp2 (expR a)

/-- The reference's reciprocal scale. -/
def invR (a : EReal) : EReal := Ideal.exp2 (0 - expR a)

/-- The words of the kernel's two scales where the exponent field is `N`, neither 0 nor large: exponent fields `N + 1` and `253 - N`. -/
theorem words_mid : ∀ N : Fin 253, 1 ≤ N.val →
    IntOp.shli .vector (IntOp.addi 127#32 (Scalar.select (IntOp.ori (IntOp.ori (IntOp.cmpi .eq (BitVec.ofNat 32 N.val) 0#32)
      (IntOp.cmpi .eq (BitVec.ofNat 32 N.val) 255#32)) (BitVec.ofBool false)) 0#32 (IntOp.subi (BitVec.ofNat 32 N.val) 126#32))) 23#32
      = IntOp.shli .vector (BitVec.ofNat 32 (N.val + 1)) 23#32
    ∧ IntOp.shli .vector (IntOp.subi 127#32 (Scalar.select (IntOp.ori (IntOp.ori (IntOp.cmpi .eq (BitVec.ofNat 32 N.val) 0#32)
      (IntOp.cmpi .eq (BitVec.ofNat 32 N.val) 255#32)) (BitVec.ofBool false)) 0#32 (IntOp.subi (BitVec.ofNat 32 N.val) 126#32))) 23#32
      = IntOp.shli .vector (BitVec.ofNat 32 (253 - N.val)) 23#32 := by
  decide +kernel

/-- The words of the kernel's two scales where the exponent field is zero: one and one. -/
theorem words_zero : ∀ b : Bool,
    Scalar.select (IntOp.ori (IntOp.ori (IntOp.cmpi .eq 0#32 0#32) (IntOp.cmpi .eq 0#32 255#32)) (BitVec.ofBool b)) 0#32 (IntOp.subi 0#32 126#32) = 0#32 := by
  decide

/-- The word of one. -/
theorem ofBits_one : Ideal.ofBits .f32 0x3F800000#32 = 1 := by
  rw [ofBits_pow _ 127 (by decide) (by decide) (by decide) (by norm_num) (by norm_num)]; norm_num

/-- Two to an integer power, in the extended reals. -/
theorem exp2_int (n : ℤ) : Ideal.exp2 (((n : ℝ) : ℝ) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

/-- THE SCALES AGREE: for a row maximum that is a nonnegative real whose quotient by 448 stays below `2 ^ 126`, the kernel's
    scale and reciprocal are the reference's. -/
theorem scales_eq (x : ℝ) (hx : 0 ≤ x) (c : ℝ) (hc : Ideal.ofBits .f32 0x3B124925#32 = (c : EReal)) (hc0 : 0 < c)
    (hb : x * c < (2 : ℝ) ^ (126 : ℤ)) : scaleK (x : EReal) = scaleR (x : EReal) ∧ invK (x : EReal) = invR (x : EReal) := by
  have hv : (x : EReal) * Ideal.ofBits .f32 0x3B124925#32 = ((x * c : ℝ) : EReal) := by rw [hc, EReal.coe_mul]
  have hv0 : 0 ≤ x * c := mul_nonneg hx hc0.le
  rcases lt_or_ge (x * c) ((2 : ℝ) ^ (-126 : ℤ)) with hs | hs
  · -- below the least normal number: both exponents are zero
    have hk : expK (x : EReal) = 0#32 := by
      rw [expK, hv, biased_small (EReal.coe_nonneg.mpr hv0) (EReal.coe_lt_coe_iff.mpr hs)]
      exact words_zero _
    have hr : expR (x : EReal) = 0 := by
      unfold expR
      split_ifs with h1 h2
      · rfl
      · rfl
      · exact absurd (Or.inl (by rw [hv, ofBits_tiny]; exact EReal.coe_lt_coe_iff.mpr hs)) h2
    have e1 : IntOp.shli .vector (IntOp.addi 127#32 0#32) 23#32 = 0x3F800000#32 := by decide
    have e2 : IntOp.shli .vector (IntOp.subi 127#32 0#32) 23#32 = 0x3F800000#32 := by decide
    have e3 : Ideal.exp2 0 = 1 := by
      have := exp2_int 0
      simpa using this
    refine ⟨?_, ?_⟩
    · rw [scaleK, scaleR, hk, hr, e1, e3, ofBits_one]
    · rw [invK, invR, hk, hr, e2, sub_zero, e3, ofBits_one]
  · -- a normal number: the exponent field is the floor of the logarithm, shifted
    have hpos : 0 < x * c := lt_of_lt_of_le (by positivity) hs
    have hx0 : x ≠ 0 := fun h => by rw [h, zero_mul] at hpos; exact lt_irrefl _ hpos
    set n : ℤ := ⌊Real.log (x * c) / Real.log 2⌋ with hn
    have hlog2 : 0 < Real.log 2 := Real.log_pos (by norm_num)
    have hlow : (2 : ℝ) ^ n ≤ x * c := by
      have h := Int.floor_le (Real.log (x * c) / Real.log 2)
      rw [← hn, le_div_iff₀ hlog2] at h
      rw [← Real.log_le_log_iff (by positivity) hpos, Real.log_zpow]
      exact h
    have hupp : x * c < (2 : ℝ) ^ (n + 1) := by
      have h := Int.lt_floor_add_one (Real.log (x * c) / Real.log 2)
      rw [← hn, div_lt_iff₀ hlog2] at h
      rw [← Real.log_lt_log_iff hpos (by positivity), Real.log_zpow]
      push_cast
      exact h
    have hn1 : -126 ≤ n := by
      by_contra hcon
      have : (2 : ℝ) ^ (n + 1) ≤ (2 : ℝ) ^ (-126 : ℤ) := zpow_le_zpow_right₀ (by norm_num) (by omega)
      linarith
    have hn2 : n ≤ 125 := by
      by_contra hcon
      have : (2 : ℝ) ^ (126 : ℤ) ≤ (2 : ℝ) ^ n := zpow_le_zpow_right₀ (by norm_num) (by omega)
      linarith
    obtain ⟨N, hN⟩ : ∃ N : ℕ, (N : ℤ) = n + 127 := ⟨(n + 127).toNat, by omega⟩
    have hB : biased ((x * c : ℝ) : EReal) = BitVec.ofNat 32 N :=
      biased_mid N (by omega) (by omega) (by rw [hN]; simpa using hlow) (by rw [hN]; convert hupp using 2; ring)
    have hdec : decide ((x : EReal) = 0) = false := decide_eq_false (by rw [← EReal.coe_zero, EReal.coe_eq_coe_iff]; exact hx0)
    have hw := words_mid ⟨N, by omega⟩ (by show 1 ≤ N; omega)
    have hr : expR (x : EReal) = (((n + 1 : ℤ) : ℝ) : EReal) := by
      have hlogx : Ideal.log ((x * c : ℝ) : EReal) = ((Real.log (x * c) : ℝ) : EReal) := by
        show (if x * c ≤ 0 then ⊥ else _) = _
        rw [if_neg (not_le.mpr hpos)]
      have hlogt : Ideal.log ((2 : ℝ) : EReal) = ((Real.log 2 : ℝ) : EReal) := by
        show (if (2 : ℝ) ≤ 0 then ⊥ else _) = _
        rw [if_neg (by norm_num)]
      have hne : ((Real.log 2 : ℝ) : EReal) ≠ 0 := by
        rw [← EReal.coe_zero, Ne, EReal.coe_eq_coe_iff]; exact hlog2.ne'
      unfold expR
      rw [if_neg (by rw [← EReal.coe_zero, EReal.coe_eq_coe_iff]; exact hx0), hv, ofBits_tiny, ofBits_inf, if_neg, ofBits_two,
        hlogx, hlogt, Ideal.div, if_neg hne, ← EReal.coe_inv, ← EReal.coe_mul, ← div_eq_mul_inv]
      · show ((⌊_⌋ : ℝ) : EReal) + 1 = _
        rw [← hn]
        push_cast
        rfl
      · rw [not_or]
        exact ⟨not_lt.mpr (EReal.coe_le_coe_iff.mpr hs), EReal.coe_ne_top _⟩
    refine ⟨?_, ?_⟩
    · rw [scaleK, expK, hv, hB, hdec, hw.1, scaleR, hr, exp2_int]
      have := thr_pow ⟨N + 1, by omega⟩ (by show 1 ≤ N + 1; omega) (by show N + 1 ≤ 254; omega)
      rw [thr] at this
      rw [this]
      congr 2
      push_cast
      omega
    · rw [invK, expK, hv, hB, hdec, hw.2, invR, hr, show (0 : EReal) - (((n + 1 : ℤ) : ℝ) : EReal) = (((-(n + 1) : ℤ) : ℝ) : EReal) by
        rw [zero_sub, ← EReal.coe_neg]; push_cast; rfl, exp2_int]
      have := thr_pow ⟨253 - N, by omega⟩ (by show 1 ≤ 253 - N; omega) (by show 253 - N ≤ 254; omega)
      rw [thr] at this
      rw [this]
      congr 2
      show ((253 - N : ℕ) : ℤ) - 127 = _
      omega

/-- THE SCALES AGREE AT INFINITY: for an infinite row maximum all four are one. -/
theorem scales_top : scaleK ⊤ = scaleR ⊤ ∧ invK ⊤ = invR ⊤ := by
  obtain ⟨c, hc, hc0, _⟩ := ofBits_recip
  have hv : (⊤ : EReal) * Ideal.ofBits .f32 0x3B124925#32 = ⊤ := by rw [hc, EReal.top_mul_coe_of_pos hc0]
  have hB : biased ⊤ = 255#32 := by
    refine biased_eq ⊤ 255 fun t => ?_
    rw [max_eq_left le_top]
    exact ⟨fun h => absurd h (not_lt.mpr le_top), fun h => absurd h (not_lt.mpr (Fin.le_last t))⟩
  have hw : ∀ b : Bool, Scalar.select (IntOp.ori (IntOp.ori (IntOp.cmpi .eq 255#32 0#32) (IntOp.cmpi .eq 255#32 255#32)) (BitVec.ofBool b))
      0#32 (IntOp.subi 255#32 126#32) = 0#32 := by decide
  have hk : expK ⊤ = 0#32 := by
    rw [expK, hv, hB]
    exact hw _
  have hr : expR ⊤ = 0 := by
    unfold expR
    rw [hv, ofBits_inf, if_neg EReal.top_ne_zero, if_pos (Or.inr rfl)]
  have e1 : IntOp.shli .vector (IntOp.addi 127#32 0#32) 23#32 = 0x3F800000#32 := by decide
  have e2 : IntOp.shli .vector (IntOp.subi 127#32 0#32) 23#32 = 0x3F800000#32 := by decide
  have e3 : Ideal.exp2 0 = 1 := by
    have := exp2_int 0
    simpa using this
  refine ⟨?_, ?_⟩
  · rw [scaleK, scaleR, hk, hr, e1, e3, ofBits_one]
  · rw [invK, invR, hk, hr, e2, sub_zero, e3, ofBits_one]

end Cert.Exponent

end
-- ==== Proof.Row.lean ====
/- One row of the computation on extended reals, as the kernel forms it and as the reference does, and their agreement where
   the gain is in a float's range. Nothing here mentions either program. -/
module

public import proofs.«01_k».proof.Proof.Exponent

@[expose] public section

noncomputable section

namespace Cert.Row

open Idealize.ShloMosaic Cert.Exponent

/-- The kernel's normalised row: the sum of squares times the reciprocal of the row length. -/
def normK (r g : Fin 2048 → EReal) (k : Fin 2048) : EReal :=
  r k * Ideal.rsqrt ((∑ x, r x * r x) * Ideal.ofBits .f32 0x3A000000#32 + Ideal.ofBits .f32 0x358637BD#32) * g k

/-- The reference's normalised row: the sum of squares divided by the row length. -/
def normR (r g : Fin 2048 → EReal) (k : Fin 2048) : EReal :=
  r k * Ideal.rsqrt (Ideal.div (∑ x, r x * r x) (Ideal.ofBits .f32 0x45000000#32) + Ideal.ofBits .f32 0x358637BD#32) * g k

/-- The largest absolute value of a row. -/
def amax (h : Fin 2048 → EReal) : EReal :=
  Finset.univ.fold max (Ideal.ofBits .f32 0xFF800000#32) fun x => max (h x) (-(h x))

/-- One code: the element times the reciprocal scale, clamped to plus and minus 448. -/
def code (h inv : EReal) : EReal :=
  min (Ideal.ofBits .f32 0x43E00000#32) (max (Ideal.ofBits .f32 0xC3E00000#32) (h * inv))

/-- Multiplying by the reciprocal of 2048 is dividing by 2048, on every extended real. -/
theorem mean_eq (s : EReal) : s * Ideal.ofBits .f32 0x3A000000#32 = Ideal.div s (Ideal.ofBits .f32 0x45000000#32) := by
  rw [ofBits_mean, ofBits_len, Ideal.div, if_neg (by rw [← EReal.coe_zero, EReal.coe_eq_coe_iff]; positivity), ← EReal.coe_inv]
  congr 2

/-- So the two normalised rows are one. -/
theorem norm_eq (r g : Fin 2048 → EReal) : normK r g = normR r g := by
  funext k
  rw [normK, normR, mean_eq]

/-- A square is nonnegative, at the infinities too. -/
theorem sq_nonneg' (a : EReal) : 0 ≤ a * a := by
  induction a with
  | bot => simp
  | top => simp
  | coe x => rw [← EReal.coe_mul]; exact EReal.coe_nonneg.mpr (mul_self_nonneg x)

/-- An extended real between minus and plus a real is a real. -/
theorem real_of_abs_le {a : EReal} {M : ℝ} (h : max a (-a) ≤ (M : EReal)) : ∃ x : ℝ, a = (x : EReal) ∧ |x| ≤ M := by
  induction a with
  | bot => simp at h
  | top => simp at h
  | coe x =>
    refine ⟨x, rfl, abs_le'.mpr ?_⟩
    rw [max_le_iff, ← EReal.coe_neg, EReal.coe_le_coe_iff, EReal.coe_le_coe_iff] at h
    exact h

/-- A value a float can hold, as far as its size goes: at most the largest finite float in absolute value, or infinite. -/
def InRange (a : EReal) : Prop := max a (-a) ≤ Ideal.ofBits .f32 0x7F7FFFFF#32 ∨ max a (-a) = Ideal.ofBits .f32 0x7F800000#32

/-- A row divided by its root mean square is real and no element exceeds 64 in absolute value, whatever the row: an infinite element
    makes the mean infinite and the whole row zero; otherwise no element exceeds `√2048` times the root mean square. -/
theorem unit_bound (r : Fin 2048 → EReal) (k : Fin 2048) : ∃ y : ℝ,
    r k * Ideal.rsqrt ((∑ x, r x * r x) * Ideal.ofBits .f32 0x3A000000#32 + Ideal.ofBits .f32 0x358637BD#32) = (y : EReal) ∧ |y| ≤ 64 := by
  obtain ⟨ε, hε, hε0⟩ := ofBits_eps
  by_cases hinf : ∃ x, r x * r x = ⊤
  · obtain ⟨x, hx⟩ := hinf
    have hs : (∑ x, r x * r x) = ⊤ :=
      top_le_iff.mp (hx ▸ Finset.single_le_sum (f := fun x => r x * r x) (fun i _ => sq_nonneg' (r i)) (Finset.mem_univ x))
    refine ⟨0, ?_, by rw [abs_zero]; norm_num⟩
    have h1 : (⊤ : EReal) * (((2 : ℝ) ^ (-11 : ℤ) : ℝ) : EReal) = ⊤ := EReal.top_mul_coe_of_pos (by positivity)
    have h2 : Ideal.rsqrt ⊤ = 0 := rfl
    rw [hs, ofBits_mean, h1, hε, EReal.top_add_coe, h2, mul_zero]
    rfl
  · have hreal : ∀ x, ∃ y : ℝ, r x = (y : EReal) := by
      intro x
      have hx : r x * r x ≠ ⊤ := fun h => hinf ⟨x, h⟩
      generalize r x = a at hx
      induction a with
      | bot => simp at hx
      | top => simp at hx
      | coe y => exact ⟨y, rfl⟩
    choose y hy using hreal
    have hs : (∑ x, r x * r x) = ((∑ x, y x * y x : ℝ) : EReal) := by
      simp only [hy, ← EReal.coe_mul]
      exact (map_sum (⟨⟨Real.toEReal, EReal.coe_zero⟩, EReal.coe_add⟩ : ℝ →+ EReal) (fun x => y x * y x) Finset.univ).symm
    set S : ℝ := ∑ x, y x * y x with hS
    have hS0 : 0 ≤ S := Finset.sum_nonneg fun i _ => mul_self_nonneg _
    have hkS : y k * y k ≤ S := Finset.single_le_sum (f := fun x => y x * y x) (fun i _ => mul_self_nonneg _) (Finset.mem_univ k)
    set u : ℝ := S * (2 : ℝ) ^ (-11 : ℤ) + ε with hu
    have hu0 : 0 < u := by positivity
    have hrs : Ideal.rsqrt (u : EReal) = (((Real.sqrt u)⁻¹ : ℝ) : EReal) := by
      show (if u < 0 then ⊥ else if u = 0 then ⊤ else _) = _
      rw [if_neg (not_lt.mpr hu0.le), if_neg hu0.ne']
    have hsq : 0 < Real.sqrt u := Real.sqrt_pos.mpr hu0
    have hyk : |y k| ≤ 64 * Real.sqrt u := by
      rw [← Real.sqrt_sq_eq_abs, show (64 : ℝ) = Real.sqrt (64 ^ 2) from (Real.sqrt_sq (by norm_num)).symm, ← Real.sqrt_mul (by norm_num)]
      apply Real.sqrt_le_sqrt
      have : S * (2 : ℝ) ^ (-11 : ℤ) = S / 2048 := by norm_num; ring
      rw [hu, this]
      nlinarith
    refine ⟨y k * (Real.sqrt u)⁻¹, ?_, ?_⟩
    · rw [hs, ofBits_mean, hε, hy k, ← EReal.coe_mul, ← EReal.coe_add, ← hu, hrs, ← EReal.coe_mul]
    · rw [abs_mul, abs_inv, abs_of_pos hsq, ← div_eq_mul_inv, div_le_iff₀ hsq]
      exact hyk

/-- An element of a normalised row whose gain is in a float's range is infinite or at most `2 ^ 134`, in absolute value. -/
theorem norm_bound (r g : Fin 2048 → EReal) (hg : ∀ k, InRange (g k)) (k : Fin 2048) :
    max (normK r g k) (-(normK r g k)) = ⊤ ∨ max (normK r g k) (-(normK r g k)) ≤ (((2 : ℝ) ^ (134 : ℤ) : ℝ) : EReal) := by
  obtain ⟨y, hy, hb⟩ := unit_bound r k
  rw [normK, hy]
  rcases hg k with h | h
  · right
    obtain ⟨M, hM, hM0, hM1⟩ := ofBits_max
    obtain ⟨γ, hγ, hγM⟩ := real_of_abs_le (hM ▸ h)
    rw [hγ, ← EReal.coe_mul, ← EReal.coe_neg, max_le_iff, EReal.coe_le_coe_iff, EReal.coe_le_coe_iff, ← abs_le', abs_mul]
    calc |y| * |γ| ≤ 64 * (2 : ℝ) ^ (128 : ℤ) := mul_le_mul hb (hγM.trans hM1.le) (abs_nonneg _) (by norm_num)
      _ = (2 : ℝ) ^ (134 : ℤ) := by norm_num
  · have hcase : g k = ⊤ ∨ g k = ⊥ := by
      rw [ofBits_inf] at h
      generalize g k = a at h
      induction a with
      | bot => exact Or.inr rfl
      | top => exact Or.inl rfl
      | coe x => exact absurd h (max_lt (EReal.coe_lt_top x) (by rw [← EReal.coe_neg]; exact EReal.coe_lt_top _)).ne
    rcases lt_trichotomy y 0 with hy0 | hy0 | hy0
    · left
      rcases hcase with e | e <;> rw [e]
      · rw [EReal.coe_mul_top_of_neg hy0]; simp
      · rw [EReal.coe_mul_bot_of_neg hy0]; simp
    · right
      rw [hy0, EReal.coe_zero, zero_mul, neg_zero, max_self]
      exact EReal.coe_nonneg.mpr (by positivity)
    · left
      rcases hcase with e | e <;> rw [e]
      · rw [EReal.coe_mul_top_of_pos hy0]; simp
      · rw [EReal.coe_mul_bot_of_pos hy0]; simp

/-- An absolute value is nonnegative, at the infinities too. -/
theorem abs_nonneg' (a : EReal) : 0 ≤ max a (-a) := by
  rcases le_total 0 a with h | h
  · exact h.trans (le_max_left _ _)
  · exact (by simpa using EReal.neg_le_neg_iff.mpr h : (0 : EReal) ≤ -a).trans (le_max_right _ _)

/-- THE SCALES OF A ROW AGREE: with a gain in a float's range the kernel's scale and reciprocal scale of a normalised row are the
    reference's. -/
theorem row_scales (r g : Fin 2048 → EReal) (hg : ∀ k, InRange (g k)) :
    scaleK (amax (normK r g)) = scaleR (amax (normR r g)) ∧ invK (amax (normK r g)) = invR (amax (normR r g)) := by
  rw [← norm_eq r g]
  obtain ⟨c, hc, hc0, hc1⟩ := ofBits_recip
  by_cases htop : ∃ k, max (normK r g k) (-(normK r g k)) = ⊤
  · obtain ⟨k, hk⟩ := htop
    have : amax (normK r g) = ⊤ := by
      rw [amax, ← top_le_iff, Finset.le_fold_max]
      exact Or.inr ⟨k, Finset.mem_univ _, hk.ge⟩
    rw [this]
    exact scales_top
  have hle : amax (normK r g) ≤ (((2 : ℝ) ^ (134 : ℤ) : ℝ) : EReal) := by
    rw [amax, ofBits_neg_inf, Finset.fold_max_le]
    exact ⟨bot_le, fun k _ => (norm_bound r g hg k).resolve_left fun h => htop ⟨k, h⟩⟩
  have hge : 0 ≤ amax (normK r g) := by
    rw [amax, Finset.le_fold_max]
    exact Or.inr ⟨0, Finset.mem_univ _, abs_nonneg' _⟩
  generalize amax (normK r g) = a at hle hge
  induction a with
  | bot => exact absurd hge (not_le.mpr EReal.bot_lt_zero)
  | top => exact absurd hle (not_le.mpr (EReal.coe_lt_top _))
  | coe x =>
    rw [EReal.coe_le_coe_iff] at hle
    refine scales_eq x (EReal.coe_nonneg.mp hge) c hc hc0 ?_
    calc x * c ≤ (2 : ℝ) ^ (134 : ℤ) * c := mul_le_mul_of_nonneg_right hle hc0.le
      _ < (2 : ℝ) ^ (134 : ℤ) * (2 : ℝ) ^ (-8 : ℤ) := mul_lt_mul_of_pos_left hc1 (by positivity)
      _ = (2 : ℝ) ^ (126 : ℤ) := by norm_num

/-! ## The four results at one row -/

/-- The kernel's code at column `k` of a row. -/
def codeK (r g : Fin 2048 → EReal) (k : Fin 2048) : EReal := code (normK r g k) (invK (amax (normK r g)))

/-- The reference's code at column `k` of a row. -/
def codeR (r g : Fin 2048 → EReal) (k : Fin 2048) : EReal := code (normR r g k) (invR (amax (normR r g)))

/-- The kernel's product at one column: the codes against the weight column, times the row's scale, times the column's scale. -/
def yK (r g w : Fin 2048 → EReal) (u : EReal) : EReal := (∑ k, codeK r g k * w k) * scaleK (amax (normK r g)) * u

/-- The reference's product at one column. -/
def yR (r g w : Fin 2048 → EReal) (u : EReal) : EReal := (∑ k, codeR r g k * w k) * scaleR (amax (normR r g)) * u

/-- The codes of a row agree. -/
theorem code_eq (r g : Fin 2048 → EReal) (hg : ∀ k, InRange (g k)) (k : Fin 2048) :
    codeK r g k = codeR r g k := by
  rw [codeK, codeR, (row_scales r g hg).2, norm_eq]

/-- The products of a row agree. -/
theorem y_eq (r g : Fin 2048 → EReal) (hg : ∀ k, InRange (g k)) (w : Fin 2048 → EReal) (u : EReal) :
    yK r g w u = yR r g w u := by
  rw [yK, yR, (row_scales r g hg).1]
  simp only [code_eq r g hg]

end Cert.Row

end
-- ==== Proof.KernelBody.lean ====
/- The kernel's body on one block of 256 rows, read at an index: each of its four stored values is the row function of
   `Proof/Row.lean` at that row. -/
module

public import proofs.«01_k».proof.Proof.Gen.KernelIdeal.Frame
public import proofs.«01_k».proof.Proof.Row

@[expose] public section

set_option maxRecDepth 16384

noncomputable section

namespace Cert.KernelIdeal.Body

open Cert.KernelIdeal Cert.KernelIdeal.Gen Idealize.ShloMosaic
open Cert.Row Cert.Exponent

/-- Row `i` of the sum of the two blocks. -/
abbrev row (a b : Vec Ideal S256x2048 .f32) (i : Fin 256) (k : Fin 2048) : EReal := a (ix2 i k) + b (ix2 i k)

/-- The gain as a function of the column. -/
abbrev gain (g : Vec Ideal S1x2048 .f32) (k : Fin 2048) : EReal := g (ix2 0 k)

/-- The residual sum. -/
theorem pay1_apply (a b : Vec Ideal S256x2048 .f32) (i : Fin 256) (j : Fin 2048) : k0_pay1 a b (ix2 i j) = row a b i j := by
  pointwise [k0_pay1]

/-- The normalised block. -/
theorem pay2_apply (a b : Vec Ideal S256x2048 .f32) (g : Vec Ideal S1x2048 .f32) (i : Fin 256) (j : Fin 2048) :
    k0_pay2 a b g (ix2 i j) = normK (row a b i) (gain g) j := by
  pointwise [k0_pay2, k0_pay1]
  rfl

/-- The largest absolute value of each row. -/
theorem pay3_apply (a b : Vec Ideal S256x2048 .f32) (g : Vec Ideal S1x2048 .f32) (i : Fin 256) :
    k0_pay3 a b g (ix2 i 0) = amax (normK (row a b i) (gain g)) := by
  have h : k0_pay3 a b g (ix2 i 0) = amax (fun x => k0_pay2 a b g (ix2 i x)) := by
    pointwise [k0_pay3]
    rfl
  exact h.trans (congrArg amax (funext fun x => pay2_apply a b g i x))

/-- The counted exponent field of each row. -/
theorem pay4_apply (a b : Vec Ideal S256x2048 .f32) (g : Vec Ideal S1x2048 .f32) (i : Fin 256) :
    k0_pay4 a b g (ix2 i 0) = biased (amax (normK (row a b i) (gain g)) * Ideal.ofBits .f32 0x3B124925#32) := by
  rw [← pay3_apply]
  pointwise [k0_pay4]
  rw [biased]
  congr

/-- Whether that field is zero. -/
theorem pay5_apply (a b : Vec Ideal S256x2048 .f32) (g : Vec Ideal S1x2048 .f32) (i : Fin 256) :
    k0_pay5 a b g (ix2 i 0) = IntOp.cmpi .eq (k0_pay4 a b g (ix2 i 0)) 0#32 := by
  pointwise [k0_pay5]

/-- The field of the infinities. -/
theorem pay6_apply (i : Fin 256) : k0_pay6 (ix2 i 0) = 255#32 := by
  pointwise [k0_pay6]

/-- The exponent of each row. -/
theorem pay7_apply (a b : Vec Ideal S256x2048 .f32) (g : Vec Ideal S1x2048 .f32) (i : Fin 256) :
    k0_pay7 (k0_pay3 a b g) (k0_pay4 a b g) (k0_pay5 a b g) k0_pay6 (ix2 i 0) = expK (amax (normK (row a b i) (gain g))) := by
  have h : ∀ (v22 : FVec Ideal S256x1 .f32) (v36 : IVec S256x1 32) (v38 : IVec S256x1 1) (v39 : IVec S256x1 32),
      k0_pay7 v22 v36 v38 v39 (ix2 i 0) = Scalar.select (IntOp.ori (IntOp.ori (v38 (ix2 i 0)) (IntOp.cmpi .eq (v36 (ix2 i 0)) (v39 (ix2 i 0))))
        (BitVec.ofBool (decide (v22 (ix2 i 0) = 0)))) 0#32 (IntOp.subi (v36 (ix2 i 0)) 126#32) := by
    intro v22 v36 v38 v39
    pointwise [k0_pay7]
    try congr
  rw [h, pay3_apply, pay5_apply, pay4_apply, pay6_apply, expK]

/-- The scale of each row. -/
theorem pay8_apply (a b : Vec Ideal S256x2048 .f32) (g : Vec Ideal S1x2048 .f32) (i : Fin 256) :
    k0_pay8 (k0_pay3 a b g) (k0_pay4 a b g) (k0_pay5 a b g) k0_pay6 (ix2 i 0) = scaleK (amax (normK (row a b i) (gain g))) := by
  rw [scaleK, ← pay7_apply]
  generalize k0_pay3 a b g = v22
  generalize k0_pay4 a b g = v36
  generalize k0_pay5 a b g = v38
  generalize k0_pay6 = v39
  pointwise [k0_pay8]
  try rfl

/-- The codes. -/
theorem pay9_apply (a b : Vec Ideal S256x2048 .f32) (g : Vec Ideal S1x2048 .f32) (i : Fin 256) (j : Fin 2048) :
    k0_pay9 (k0_pay2 a b g) (k0_pay3 a b g) (k0_pay4 a b g) (k0_pay5 a b g) k0_pay6 (ix2 i j) = codeK (row a b i) (gain g) j := by
  rw [codeK, invK, ← pay7_apply, ← pay2_apply]
  generalize k0_pay2 a b g = v19
  generalize k0_pay3 a b g = v22
  generalize k0_pay4 a b g = v36
  generalize k0_pay5 a b g = v38
  generalize k0_pay6 = v39
  pointwise [k0_pay9]
  try rfl

/-- The product. -/
theorem pay10_apply (a b : Vec Ideal S256x2048 .f32) (g : Vec Ideal S1x2048 .f32) (w : Vec Ideal S2048x6144 .fp8e4m3) (u : Vec Ideal S1x6144 .f32)
    (i : Fin 256) (j : Fin 6144) :
    k0_pay10 (k0_pay2 a b g) (k0_pay3 a b g) (k0_pay4 a b g) (k0_pay5 a b g) k0_pay6 w u (ix2 i j)
      = yK (row a b i) (gain g) (fun k => w (ix2 k j)) (u (ix2 0 j)) := by
  rw [yK, ← pay8_apply]
  simp only [← pay9_apply]
  generalize k0_pay2 a b g = v19
  generalize k0_pay3 a b g = v22
  generalize k0_pay4 a b g = v36
  generalize k0_pay5 a b g = v38
  generalize k0_pay6 = v39
  pointwise [k0_pay10]
  try rfl

theorem hz : (![0, 0] : Fin 2 → Nat) = fun _ => 0 := funext fun a => by fin_cases a <;> rfl

/-- What the body leaves in the product's buffer, at an index. -/
theorem out5_apply (x0 x1 : Vec Ideal S256x2048 .f32) (x2 : Vec Ideal S1x2048 .f32) (x3 : Vec Ideal S2048x6144 .fp8e4m3) (x4 : Vec Ideal S1x6144 .f32)
    (i : Fin 256) (j : Fin 6144) :
    out0_5 x0 x1 x2 x3 x4 (ix2 i j) = yK (row x0 x1 i) (gain x2) (fun k => x3 (ix2 k j)) (x4 (ix2 0 j)) := by
  unfold out0_5 k0_pay15 k0_pay14 k0_pay13 k0_pay12 k0_pay11
  rw [View.canon_unit_zero hz, View.ld_unit_zero hz, View.ld_unit_zero hz, View.ld_unit_zero hz, View.ld_unit_zero hz, View.ld_unit_zero hz]
  exact pay10_apply x0 x1 x2 x3 x4 i j

/-- What the body leaves in the residual sum's buffer, at an index. -/
theorem out6_apply (x0 x1 : Vec Ideal S256x2048 .f32) (x2 : Vec Ideal S1x2048 .f32) (x3 : Vec Ideal S2048x6144 .fp8e4m3) (x4 : Vec Ideal S1x6144 .f32)
    (i : Fin 256) (j : Fin 2048) : out0_6 x0 x1 x2 x3 x4 (ix2 i j) = row x0 x1 i j := by
  unfold out0_6
  rw [View.canon_unit_zero hz, View.ld_unit_zero hz, View.ld_unit_zero hz]
  exact pay1_apply x0 x1 i j

/-- What the body leaves in the codes' buffer, at an index. -/
theorem out7_apply (x0 x1 : Vec Ideal S256x2048 .f32) (x2 : Vec Ideal S1x2048 .f32) (x3 : Vec Ideal S2048x6144 .fp8e4m3) (x4 : Vec Ideal S1x6144 .f32)
    (i : Fin 256) (j : Fin 2048) : out0_7 x0 x1 x2 x3 x4 (ix2 i j) = codeK (row x0 x1 i) (gain x2) j := by
  unfold out0_7 k0_pay15 k0_pay14 k0_pay13 k0_pay12 k0_pay11
  rw [View.canon_unit_zero hz, View.ld_unit_zero hz, View.ld_unit_zero hz, View.ld_unit_zero hz]
  exact pay9_apply x0 x1 x2 i j

/-- What the body leaves in the scales' buffer, at an index. -/
theorem out8_apply (x0 x1 : Vec Ideal S256x2048 .f32) (x2 : Vec Ideal S1x2048 .f32) (x3 : Vec Ideal S2048x6144 .fp8e4m3) (x4 : Vec Ideal S1x6144 .f32)
    (i : Fin 256) : out0_8 x0 x1 x2 x3 x4 (ix2 i 0) = scaleK (amax (normK (row x0 x1 i) (gain x2))) := by
  unfold out0_8 k0_pay15 k0_pay14 k0_pay13 k0_pay12
  rw [View.canon_unit_zero hz, View.ld_unit_zero hz, View.ld_unit_zero hz, View.ld_unit_zero hz]
  exact pay8_apply x0 x1 x2 i

end Cert.KernelIdeal.Body

end
-- ==== Proof.KernelFinal.lean ====
/- The kernel's four result arrays after the run as whole-array functions of the arrays its region reads. -/
module

public import proofs.«01_k».proof.Proof.KernelRun
public import proofs.«01_k».proof.Proof.KernelBody
public import Idealize.ShloMosaic.Lib.Pipeline.ValueKit

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.Row Cert.Exponent

/-- Row `i` of the sum of the two arrays. -/
abbrev rowA (a b : Vec Ideal S16384x2048 .f32) (i : Fin 16384) (k : Fin 2048) : EReal := a (ix2 i k) + b (ix2 i k)

/-- The product array. -/
def yArr (a b : Vec Ideal S16384x2048 .f32) (g : Vec Ideal S1x2048 .f32) (w : Vec Ideal S2048x6144 .fp8e4m3) (u : Vec Ideal S1x6144 .f32) :
    Vec Ideal S16384x6144 .f32 :=
  fun j => yK (rowA a b (j 0)) (fun k => g (ix2 0 k)) (fun k => w (ix2 k (j 1))) (u (ix2 0 (j 1)))

/-- The residual sum. -/
def rArr (a b : Vec Ideal S16384x2048 .f32) : Vec Ideal S16384x2048 .f32 := fun j => rowA a b (j 0) (j 1)

/-- The code array. -/
def codeArr (a b : Vec Ideal S16384x2048 .f32) (g : Vec Ideal S1x2048 .f32) : Vec Ideal S16384x2048 .fp8e4m3 :=
  fun j => codeK (rowA a b (j 0)) (fun k => g (ix2 0 k)) (j 1)

/-- The scale column. -/
def scaleArr (a b : Vec Ideal S16384x2048 .f32) (g : Vec Ideal S1x2048 .f32) : Vec Ideal S16384x1 .f32 :=
  fun j => scaleK (amax (normK (rowA a b (j 0)) (fun k => g (ix2 0 k))))

/-- The row of the array that row `i` of block `t` is. -/
def at_ (t : Fin cfg0.N) (i : Fin 256) : Fin 16384 := ⟨t.val * 256 + i.val, by have := t.isLt; have h : cfg0.N = 64 := N_0; omega⟩

/-! ## Where the blocks sit -/

/-- The block index of each moving window at point `t` is `(t, 0)`, of each fixed one `(0, 0)` (decided over the 64 points). -/
theorem idx_facts : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0])

/-- Element `(i, j)` of block `t` of window 0 is element `(256 t + i, j)` of its array. -/
theorem emb0 (t : Fin cfg0.N) (i : Fin 256) (j : Fin 2048) : (win0_0.blk t).view.emb (ix2 i j) = ix2 (at_ t i) j := by
  funext a
  refine Fin.ext ?_
  have h0 : win0_0.index t 0 = t.val := congrFun (idx_facts t).1 0
  have h1 : win0_0.index t 1 = 0 := congrFun (idx_facts t).1 1
  match a with
  | ⟨0, _⟩ =>
    refine (Pipeline.Window.rect_emb_val win0_0 t (ix2 i j) 0).trans ?_
    rw [h0]
    rfl
  | ⟨1, _⟩ =>
    refine (Pipeline.Window.rect_emb_val win0_0 t (ix2 i j) 1).trans ?_
    rw [h1, Nat.zero_mul, Nat.zero_add]
    rfl

/-- Element `(i, j)` of block `t` of window 1 is element `(256 t + i, j)` of its array. -/
theorem emb1 (t : Fin cfg0.N) (i : Fin 256) (j : Fin 2048) : (win0_1.blk t).view.emb (ix2 i j) = ix2 (at_ t i) j := by
  funext a
  refine Fin.ext ?_
  have h0 : win0_1.index t 0 = t.val := congrFun (idx_facts t).2.1 0
  have h1 : win0_1.index t 1 = 0 := congrFun (idx_facts t).2.1 1
  match a with
  | ⟨0, _⟩ =>
    refine (Pipeline.Window.rect_emb_val win0_1 t (ix2 i j) 0).trans ?_
    rw [h0]
    rfl
  | ⟨1, _⟩ =>
    refine (Pipeline.Window.rect_emb_val win0_1 t (ix2 i j) 1).trans ?_
    rw [h1, Nat.zero_mul, Nat.zero_add]
    rfl

/-- Element `(i, j)` of block `t` of window 5 is element `(256 t + i, j)` of its array. -/
theorem emb5 (t : Fin cfg0.N) (i : Fin 256) (j : Fin 6144) : (win0_5.blk t).view.emb (ix2 i j) = ix2 (at_ t i) j := by
  funext a
  refine Fin.ext ?_
  have h0 : win0_5.index t 0 = t.val := congrFun (idx_facts t).2.2.2.2.2.1 0
  have h1 : win0_5.index t 1 = 0 := congrFun (idx_facts t).2.2.2.2.2.1 1
  match a with
  | ⟨0, _⟩ =>
    refine (Pipeline.Window.rect_emb_val win0_5 t (ix2 i j) 0).trans ?_
    rw [h0]
    rfl
  | ⟨1, _⟩ =>
    refine (Pipeline.Window.rect_emb_val win0_5 t (ix2 i j) 1).trans ?_
    rw [h1, Nat.zero_mul, Nat.zero_add]
    rfl

/-- Element `(i, j)` of block `t` of window 6 is element `(256 t + i, j)` of its array. -/
theorem emb6 (t : Fin cfg0.N) (i : Fin 256) (j : Fin 2048) : (win0_6.blk t).view.emb (ix2 i j) = ix2 (at_ t i) j := by
  funext a
  refine Fin.ext ?_
  have h0 : win0_6.index t 0 = t.val := congrFun (idx_facts t).2.2.2.2.2.2.1 0
  have h1 : win0_6.index t 1 = 0 := congrFun (idx_facts t).2.2.2.2.2.2.1 1
  match a with
  | ⟨0, _⟩ =>
    refine (Pipeline.Window.rect_emb_val win0_6 t (ix2 i j) 0).trans ?_
    rw [h0]
    rfl
  | ⟨1, _⟩ =>
    refine (Pipeline.Window.rect_emb_val win0_6 t (ix2 i j) 1).trans ?_
    rw [h1, Nat.zero_mul, Nat.zero_add]
    rfl

/-- Element `(i, j)` of block `t` of window 7 is element `(256 t + i, j)` of its array. -/
theorem emb7 (t : Fin cfg0.N) (i : Fin 256) (j : Fin 2048) : (win0_7.blk t).view.emb (ix2 i j) = ix2 (at_ t i) j := by
  funext a
  refine Fin.ext ?_
  have h0 : win0_7.index t 0 = t.val := congrFun (idx_facts t).2.2.2.2.2.2.2.1 0
  have h1 : win0_7.index t 1 = 0 := congrFun (idx_facts t).2.2.2.2.2.2.2.1 1
  match a with
  | ⟨0, _⟩ =>
    refine (Pipeline.Window.rect_emb_val win0_7 t (ix2 i j) 0).trans ?_
    rw [h0]
    rfl
  | ⟨1, _⟩ =>
    refine (Pipeline.Window.rect_emb_val win0_7 t (ix2 i j) 1).trans ?_
    rw [h1, Nat.zero_mul, Nat.zero_add]
    rfl

/-- Element `(i, j)` of block `t` of window 8 is element `(256 t + i, j)` of its array. -/
theorem emb8 (t : Fin cfg0.N) (i : Fin 256) (j : Fin 1) : (win0_8.blk t).view.emb (ix2 i j) = ix2 (at_ t i) j := by
  funext a
  refine Fin.ext ?_
  have h0 : win0_8.index t 0 = t.val := congrFun (idx_facts t).2.2.2.2.2.2.2.2 0
  have h1 : win0_8.index t 1 = 0 := congrFun (idx_facts t).2.2.2.2.2.2.2.2 1
  match a with
  | ⟨0, _⟩ =>
    refine (Pipeline.Window.rect_emb_val win0_8 t (ix2 i j) 0).trans ?_
    rw [h0]
    rfl
  | ⟨1, _⟩ =>
    refine (Pipeline.Window.rect_emb_val win0_8 t (ix2 i j) 1).trans ?_
    rw [h1, Nat.zero_mul, Nat.zero_add]
    rfl

/-- Window 2's block is its whole array. -/
theorem emb2 (t : Fin cfg0.N) (i : Fin 1) (j : Fin 2048) : (win0_2.blk t).view.emb (ix2 i j) = ix2 i j := by
  funext a
  refine Fin.ext ?_
  have h0 : win0_2.index t 0 = 0 := congrFun (idx_facts t).2.2.1 0
  have h1 : win0_2.index t 1 = 0 := congrFun (idx_facts t).2.2.1 1
  match a with
  | ⟨0, _⟩ => exact Pipeline.Window.rect_emb_val_of_index_zero win0_2 t 0 h0 (ix2 i j)
  | ⟨1, _⟩ => exact Pipeline.Window.rect_emb_val_of_index_zero win0_2 t 1 h1 (ix2 i j)

/-- Window 3's block is its whole array. -/
theorem emb3 (t : Fin cfg0.N) (i : Fin 2048) (j : Fin 6144) : (win0_3.blk t).view.emb (ix2 i j) = ix2 i j := by
  funext a
  refine Fin.ext ?_
  have h0 : win0_3.index t 0 = 0 := congrFun (idx_facts t).2.2.2.1 0
  have h1 : win0_3.index t 1 = 0 := congrFun (idx_facts t).2.2.2.1 1
  match a with
  | ⟨0, _⟩ => exact Pipeline.Window.rect_emb_val_of_index_zero win0_3 t 0 h0 (ix2 i j)
  | ⟨1, _⟩ => exact Pipeline.Window.rect_emb_val_of_index_zero win0_3 t 1 h1 (ix2 i j)

/-- Window 4's block is its whole array. -/
theorem emb4 (t : Fin cfg0.N) (i : Fin 1) (j : Fin 6144) : (win0_4.blk t).view.emb (ix2 i j) = ix2 i j := by
  funext a
  refine Fin.ext ?_
  have h0 : win0_4.index t 0 = 0 := congrFun (idx_facts t).2.2.2.2.1 0
  have h1 : win0_4.index t 1 = 0 := congrFun (idx_facts t).2.2.2.2.1 1
  match a with
  | ⟨0, _⟩ => exact Pipeline.Window.rect_emb_val_of_index_zero win0_4 t 0 h0 (ix2 i j)
  | ⟨1, _⟩ => exact Pipeline.Window.rect_emb_val_of_index_zero win0_4 t 1 h1 (ix2 i j)

variable (m : (ℓ : Loc nD τ sig) → Buf (Elt Ideal) ℓ)

/-! ## The input blocks, read -/

theorem iblk0 (c : Dev nD) (t : Fin cfg0.N) (i : Fin 256) (j : Fin 2048) : iblk m c 0 t (ix2 i j) = V m c main_v0 (ix2 (at_ t i) j) := by
  blk_simp [iblk]
  exact congrArg (V m c main_v0) (emb0 t i j)

theorem iblk1 (c : Dev nD) (t : Fin cfg0.N) (i : Fin 256) (j : Fin 2048) : iblk m c 1 t (ix2 i j) = V m c main_v1 (ix2 (at_ t i) j) := by
  blk_simp [iblk]
  exact congrArg (V m c main_v1) (emb1 t i j)

theorem iblk2 (c : Dev nD) (t : Fin cfg0.N) (i : Fin 1) (j : Fin 2048) : iblk m c 2 t (ix2 i j) = V m c main_v2 (ix2 i j) := by
  blk_simp [iblk]
  exact congrArg (V m c main_v2) (emb2 t i j)

theorem iblk3 (c : Dev nD) (t : Fin cfg0.N) (i : Fin 2048) (j : Fin 6144) : iblk m c 3 t (ix2 i j) = V m c main_arg3 (ix2 i j) := by
  blk_simp [iblk]
  exact congrArg (V m c main_arg3) (emb3 t i j)

theorem iblk4 (c : Dev nD) (t : Fin cfg0.N) (i : Fin 1) (j : Fin 6144) : iblk m c 4 t (ix2 i j) = V m c main_v3 (ix2 i j) := by
  blk_simp [iblk]
  exact congrArg (V m c main_v3) (emb4 t i j)

/-- A row of the sum of the two blocks at point `t` is the array's row. -/
theorem row_eq (c : Dev nD) (t : Fin cfg0.N) (i : Fin 256) :
    Body.row (iblk m c 0 t) (iblk m c 1 t) i = rowA (V m c main_v0) (V m c main_v1) (at_ t i) :=
  funext fun k => congrArg₂ (fun p q : EReal => p + q) (iblk0 m c t i k) (iblk1 m c t i k)

/-- The gain block is the gain. -/
theorem gain_eq (c : Dev nD) (t : Fin cfg0.N) : Body.gain (iblk m c 2 t) = fun k => V m c main_v2 (ix2 0 k) :=
  funext fun k => iblk2 m c t 0 k

/-! ## The four arrays -/

/-- The product array after the run. -/
theorem final5 (c : Dev nD) : (dats m 0 c).arrAt 5 cfg0.N = yArr (V m c main_v0) (V m c main_v1) (V m c main_v2) (V m c main_arg3) (V m c main_v3) := by
  refine (dats m 0 c).arrAt_eq_of_covers 5 _ (by decide +kernel) fun t hf y => ?_
  blk_simp
  rw [after0_5]
  obtain ⟨i, j, rfl⟩ : ∃ (i : Fin 256) (j : Fin 6144), y = ix2 i j := ⟨y 0, y 1, eq_ix2 y⟩
  refine (Body.out5_apply _ _ _ _ _ i j).trans ?_
  rw [row_eq, gain_eq, funext fun k => iblk3 m c t k j, iblk4 m c t 0 j]
  exact (congrArg (yArr (V m c main_v0) (V m c main_v1) (V m c main_v2) (V m c main_arg3) (V m c main_v3)) (emb5 t i j)).symm

/-- The residual sum after the run. -/
theorem final6 (c : Dev nD) : (dats m 0 c).arrAt 6 cfg0.N = rArr (V m c main_v0) (V m c main_v1) := by
  refine (dats m 0 c).arrAt_eq_of_covers 6 _ (by decide +kernel) fun t hf y => ?_
  blk_simp
  rw [after0_6]
  obtain ⟨i, j, rfl⟩ : ∃ (i : Fin 256) (j : Fin 2048), y = ix2 i j := ⟨y 0, y 1, eq_ix2 y⟩
  refine (Body.out6_apply _ _ _ _ _ i j).trans ?_
  rw [row_eq]
  exact (congrArg (rArr (V m c main_v0) (V m c main_v1)) (emb6 t i j)).symm

/-- The code array after the run. -/
theorem final7 (c : Dev nD) : (dats m 0 c).arrAt 7 cfg0.N = codeArr (V m c main_v0) (V m c main_v1) (V m c main_v2) := by
  refine (dats m 0 c).arrAt_eq_of_covers 7 _ (by decide +kernel) fun t hf y => ?_
  blk_simp
  rw [after0_7]
  obtain ⟨i, j, rfl⟩ : ∃ (i : Fin 256) (j : Fin 2048), y = ix2 i j := ⟨y 0, y 1, eq_ix2 y⟩
  refine (Body.out7_apply _ _ _ _ _ i j).trans ?_
  rw [row_eq, gain_eq]
  exact (congrArg (codeArr (V m c main_v0) (V m c main_v1) (V m c main_v2)) (emb7 t i j)).symm

/-- The scale column after the run. -/
theorem final8 (c : Dev nD) : (dats m 0 c).arrAt 8 cfg0.N = scaleArr (V m c main_v0) (V m c main_v1) (V m c main_v2) := by
  refine (dats m 0 c).arrAt_eq_of_covers 8 _ (by decide +kernel) fun t hf y => ?_
  blk_simp
  rw [after0_8]
  obtain ⟨i, j, rfl⟩ : ∃ (i : Fin 256) (j : Fin 1), y = ix2 i j := ⟨y 0, y 1, eq_ix2 y⟩
  obtain rfl : j = 0 := Subsingleton.elim _ _
  refine (Body.out8_apply _ _ _ _ _ i).trans ?_
  rw [row_eq, gain_eq]
  exact (congrArg (scaleArr (V m c main_v0) (V m c main_v1) (V m c main_v2)) (emb8 t i 0)).symm

end Cert.KernelIdeal.Final

end
-- ==== Proof.ReferenceRun.lean ====
/- The reference's run with its four result arrays named, and each array as the one block that its one grid point
   writes back. Copied from the generated value module of the same program. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x6144.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x2048.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16384x1.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c⟩)
    (run_main m ρ)

end Cert.ReferenceIdeal.Run

end
-- ==== Proof.ReferenceBody.lean ====
/- The reference's body on the whole arrays, read at an index: each of its four stored values is the row function of
   `Proof/Row.lean` at that row. -/
module

public import proofs.«01_k».proof.Proof.Gen.ReferenceIdeal.Frame
public import proofs.«01_k».proof.Proof.Row

@[expose] public section

set_option maxRecDepth 16384

noncomputable section

namespace Cert.ReferenceIdeal.Body

open Cert.ReferenceIdeal Cert.ReferenceIdeal.Gen Idealize.ShloMosaic
open Cert.Row Cert.Exponent

/-- The vector operation's power of two is the scalar function. -/
theorem exp2_read (x : EReal) : (FloatOps.exp2 (F := Ideal) (φ := .f32) x) = Ideal.exp2 x := rfl

/-- Row `i` of the sum of the two arrays. -/
abbrev row (a b : Vec Ideal S16384x2048 .f32) (i : Fin 16384) (k : Fin 2048) : EReal := a (ix2 i k) + b (ix2 i k)

/-- The gain as a function of the column. -/
abbrev gain (g : Vec Ideal S1x2048 .f32) (k : Fin 2048) : EReal := g (ix2 0 k)

/-- The residual sum. -/
theorem pay4_apply (a b : Vec Ideal S16384x2048 .f32) (i : Fin 16384) (j : Fin 2048) : k0_pay4 a b (ix2 i j) = row a b i j := by
  pointwise [k0_pay4]

/-- The normalised array. -/
theorem pay5_apply (a b : Vec Ideal S16384x2048 .f32) (g : Vec Ideal S1x2048 .f32) (i : Fin 16384) (j : Fin 2048) :
    k0_pay5 a b g (ix2 i j) = normR (row a b i) (gain g) j := by
  pointwise [k0_pay5, k0_pay4]
  rfl

/-- The largest absolute value of each row of an array, kept as a column. -/
def amaxVec (h : FVec Ideal S16384x2048 .f32) : FVec Ideal S16384x1 .f32 :=
  shapeCast S16384x1 (multiReduction .maximumf [1] S16384 (absf h) 0xFF800000#32 reduces_S16384x2048_S16384 (.inl rfl) rfl) shapeCasts_S16384_S16384x1

/-- It is the row function's. -/
theorem amaxVec_apply (h : FVec Ideal S16384x2048 .f32) (i : Fin 16384) : amaxVec h (ix2 i 0) = amax fun k => h (ix2 i k) := by
  pointwise [amaxVec]
  rfl

/-- The exponent of each row from the column of largest absolute values: the rest of `k0_pay6`. -/
def expVec (v21 : FVec Ideal S16384x1 .f32) : FVec Ideal S16384x1 .f32 :=
  have v22 : FVec Ideal S16384x1 .f32 := broadcast S16384x1 (Scalar.ofBits .f32 0x3B124925#32)
  have v23 : FVec Ideal S16384x1 .f32 := mulf v21 v22
  have v24 : FVec Ideal S16384x1 .f32 := log v23
  have v25 : FVec Ideal S16384x1 .f32 := broadcast S16384x1 (Scalar.ofBits .f32 0x40000000#32)
  have v26 : FVec Ideal S16384x1 .f32 := log v25
  have v27 : FVec Ideal S16384x1 .f32 := divf v24 v26
  have v28 : FVec Ideal S16384x1 .f32 := floor v27
  have v29 : FVec Ideal S16384x1 .f32 := broadcast S16384x1 (Scalar.ofBits .f32 0x3F800000#32)
  have v30 : FVec Ideal S16384x1 .f32 := addf v28 v29
  have v31 : FVec Ideal S16384x1 .f32 := broadcast S16384x1 (Scalar.ofBits .f32 0x00800000#32)
  have v32 : IVec S16384x1 1 := cmpf .olt v23 v31
  have v33 : FVec Ideal S16384x1 .f32 := broadcast S16384x1 (Scalar.ofBits .f32 0x7F800000#32)
  have v34 : IVec S16384x1 1 := cmpf .oeq v23 v33
  have v35 : IVec S16384x1 1 := ori v32 v34
  have v36 : FVec Ideal S16384x1 .f32 := broadcast S16384x1 (Scalar.ofBits .f32 0x00000000#32)
  have v37 : FVec Ideal S16384x1 .f32 := select v35 v36 v30
  have v38 : FVec Ideal S16384x1 .f32 := broadcast S16384x1 (Scalar.ofBits .f32 0x00000000#32)
  have v39 : IVec S16384x1 1 := cmpf .oeq v21 v38
  have v40 : FVec Ideal S16384x1 .f32 := broadcast S16384x1 (Scalar.ofBits .f32 0x00000000#32)
  select v39 v40 v37

/-- The reference's two selections as the nested cases of `expR`. -/
theorem exp_select (a : EReal) : (if a = 0 then (0 : EReal) else Scalar.select
      (IntOp.ori (BitVec.ofBool (decide (a * Ideal.ofBits .f32 0x3B124925#32 < Ideal.ofBits .f32 0x00800000#32)))
        (BitVec.ofBool (decide (a * Ideal.ofBits .f32 0x3B124925#32 = Ideal.ofBits .f32 0x7F800000#32))))
      (0 : EReal) (Ideal.liftRound Int.floor (Ideal.div (Ideal.log (a * Ideal.ofBits .f32 0x3B124925#32)) (Ideal.log (Ideal.ofBits .f32 0x40000000#32))) + 1))
    = expR a := by
  unfold expR
  generalize Ideal.liftRound _ _ + (1 : EReal) = z
  by_cases h0 : a = 0
  · rw [if_pos h0, if_pos h0]
  rw [if_neg h0, if_neg h0]
  generalize a * Ideal.ofBits .f32 0x3B124925#32 = v
  generalize Ideal.ofBits .f32 0x00800000#32 = p
  generalize Ideal.ofBits .f32 0x7F800000#32 = q
  by_cases h1 : v < p
  · by_cases h2 : v = q
    · rw [decide_eq_true h1, decide_eq_true h2, if_pos (Or.inl h1)]; rfl
    · rw [decide_eq_true h1, decide_eq_false h2, if_pos (Or.inl h1)]; rfl
  · by_cases h2 : v = q
    · rw [decide_eq_false h1, decide_eq_true h2, if_pos (Or.inr h2)]; rfl
    · rw [decide_eq_false h1, decide_eq_false h2, if_neg (by rintro (h | h) <;> contradiction)]; rfl

/-- Reading it at a row. -/
theorem expVec_apply (v21 : FVec Ideal S16384x1 .f32) (i : Fin 16384) : expVec v21 (ix2 i 0) = expR (v21 (ix2 i 0)) := by
  pointwise [expVec]
  generalize v21 (ix2 i 0) = a
  exact exp_select a

/-- `k0_pay6` is the two steps in turn. -/
theorem pay6_eq (a b : Vec Ideal S16384x2048 .f32) (g : Vec Ideal S1x2048 .f32) : k0_pay6 a b g = expVec (amaxVec (k0_pay5 a b g)) := rfl

/-- The exponent of each row. -/
theorem pay6_apply (a b : Vec Ideal S16384x2048 .f32) (g : Vec Ideal S1x2048 .f32) (i : Fin 16384) :
    k0_pay6 a b g (ix2 i 0) = expR (amax (normR (row a b i) (gain g))) := by
  rw [pay6_eq, expVec_apply, amaxVec_apply]
  exact congrArg (fun f => expR (amax f)) (funext fun k => pay5_apply a b g i k)

/-- The scale of each row. -/
theorem pay1_apply (a b : Vec Ideal S16384x2048 .f32) (g : Vec Ideal S1x2048 .f32) (i : Fin 16384) :
    k0_pay1 (k0_pay6 a b g) (ix2 i 0) = scaleR (amax (normR (row a b i) (gain g))) := by
  have h : ∀ v41 : FVec Ideal S16384x1 .f32, k0_pay1 v41 (ix2 i 0) = Ideal.exp2 (v41 (ix2 i 0)) := by
    intro v41
    pointwise [k0_pay1]
    exact exp2_read _
  exact (h _).trans (congrArg Ideal.exp2 (pay6_apply a b g i))

/-- The codes. -/
theorem pay2_apply (a b : Vec Ideal S16384x2048 .f32) (g : Vec Ideal S1x2048 .f32) (i : Fin 16384) (j : Fin 2048) :
    k0_pay2 (k0_pay5 a b g) (k0_pay6 a b g) (ix2 i j) = codeR (row a b i) (gain g) j := by
  have h : ∀ (v18 : FVec Ideal S16384x2048 .f32) (v41 : FVec Ideal S16384x1 .f32),
      k0_pay2 v18 v41 (ix2 i j) = code (v18 (ix2 i j)) (Ideal.exp2 (0 - v41 (ix2 i 0))) := by
    intro v18 v41
    pointwise [k0_pay2]
    rw [code, exp2_read]
  rw [h, pay6_apply, pay5_apply, codeR, invR]

/-- The product. -/
theorem pay3_apply (a b : Vec Ideal S16384x2048 .f32) (g : Vec Ideal S1x2048 .f32) (w : Vec Ideal S2048x6144 .fp8e4m3) (u : Vec Ideal S1x6144 .f32)
    (i : Fin 16384) (j : Fin 6144) :
    k0_pay3 (k0_pay5 a b g) (k0_pay6 a b g) w u (ix2 i j) = yR (row a b i) (gain g) (fun k => w (ix2 k j)) (u (ix2 0 j)) := by
  have h : ∀ (v18 : FVec Ideal S16384x2048 .f32) (v41 : FVec Ideal S16384x1 .f32),
      k0_pay3 v18 v41 w u (ix2 i j) = (∑ x, k0_pay2 v18 v41 (ix2 i x) * w (ix2 x j)) * Ideal.exp2 (v41 (ix2 i 0)) * u (ix2 0 j) := by
    intro v18 v41
    pointwise [k0_pay3, k0_pay1]
    rw [exp2_read]
  rw [h, pay6_apply, yR, scaleR]
  simp only [pay2_apply]

theorem hz : (![0, 0] : Fin 2 → Nat) = fun _ => 0 := funext fun a => by fin_cases a <;> rfl

/-- What the body leaves in the product's buffer, at an index. -/
theorem out5_apply (x0 x1 : Vec Ideal S16384x2048 .f32) (x2 : Vec Ideal S1x2048 .f32) (x3 : Vec Ideal S2048x6144 .fp8e4m3) (x4 : Vec Ideal S1x6144 .f32)
    (i : Fin 16384) (j : Fin 6144) :
    out0_5 x0 x1 x2 x3 x4 (ix2 i j) = yR (row x0 x1 i) (gain x2) (fun k => x3 (ix2 k j)) (x4 (ix2 0 j)) := by
  unfold out0_5 k0_pay8 k0_pay7
  rw [View.canon_unit_zero hz, View.ld_unit_zero hz, View.ld_unit_zero hz, View.ld_unit_zero hz, View.ld_unit_zero hz, View.ld_unit_zero hz]
  exact pay3_apply x0 x1 x2 x3 x4 i j

/-- What the body leaves in the residual sum's buffer, at an index. -/
theorem out6_apply (x0 x1 : Vec Ideal S16384x2048 .f32) (x2 : Vec Ideal S1x2048 .f32) (x3 : Vec Ideal S2048x6144 .fp8e4m3) (x4 : Vec Ideal S1x6144 .f32)
    (i : Fin 16384) (j : Fin 2048) : out0_6 x0 x1 x2 x3 x4 (ix2 i j) = row x0 x1 i j := by
  unfold out0_6
  rw [View.canon_unit_zero hz, View.ld_unit_zero hz, View.ld_unit_zero hz]
  exact pay4_apply x0 x1 i j

/-- What the body leaves in the codes' buffer, at an index. -/
theorem out7_apply (x0 x1 : Vec Ideal S16384x2048 .f32) (x2 : Vec Ideal S1x2048 .f32) (x3 : Vec Ideal S2048x6144 .fp8e4m3) (x4 : Vec Ideal S1x6144 .f32)
    (i : Fin 16384) (j : Fin 2048) : out0_7 x0 x1 x2 x3 x4 (ix2 i j) = codeR (row x0 x1 i) (gain x2) j := by
  unfold out0_7 k0_pay8 k0_pay7
  rw [View.canon_unit_zero hz, View.ld_unit_zero hz, View.ld_unit_zero hz, View.ld_unit_zero hz]
  exact pay2_apply x0 x1 x2 i j

/-- What the body leaves in the scales' buffer, at an index. -/
theorem out8_apply (x0 x1 : Vec Ideal S16384x2048 .f32) (x2 : Vec Ideal S1x2048 .f32) (x3 : Vec Ideal S2048x6144 .fp8e4m3) (x4 : Vec Ideal S1x6144 .f32)
    (i : Fin 16384) : out0_8 x0 x1 x2 x3 x4 (ix2 i 0) = scaleR (amax (normR (row x0 x1 i) (gain x2))) := by
  unfold out0_8 k0_pay8
  rw [View.canon_unit_zero hz, View.ld_unit_zero hz, View.ld_unit_zero hz, View.ld_unit_zero hz]
  exact pay1_apply x0 x1 x2 i

end Cert.ReferenceIdeal.Body

end
-- ==== Proof.ReferenceFinal.lean ====
/- The reference's four result arrays after the run as whole-array functions of the arrays its region reads. -/
module

public import proofs.«01_k».proof.Proof.ReferenceRun
public import proofs.«01_k».proof.Proof.ReferenceBody
public import Idealize.ShloMosaic.Lib.Pipeline.ValueKit

@[expose] public section

set_option maxRecDepth 16384

noncomputable section

namespace Cert.ReferenceIdeal.Final

open Cert.ReferenceIdeal Cert.ReferenceIdeal.Gen Idealize.ShloMosaic Idealize.ShloMosaic.TcCoe Idealize.SL.Sem
open Idealize.ShloMosaic.Pipeline (Dat)
open Cert.Row Cert.Exponent

/-- Row `i` of the sum of the two arrays. -/
abbrev rowA (a b : Vec Ideal S16384x2048 .f32) (i : Fin 16384) (k : Fin 2048) : EReal := a (ix2 i k) + b (ix2 i k)

/-- The product array. -/
def yArr (a b : Vec Ideal S16384x2048 .f32) (g : Vec Ideal S1x2048 .f32) (w : Vec Ideal S2048x6144 .fp8e4m3) (u : Vec Ideal S1x6144 .f32) :
    Vec Ideal S16384x6144 .f32 :=
  fun j => yR (rowA a b (j 0)) (fun k => g (ix2 0 k)) (fun k => w (ix2 k (j 1))) (u (ix2 0 (j 1)))

/-- The residual sum. -/
def rArr (a b : Vec Ideal S16384x2048 .f32) : Vec Ideal S16384x2048 .f32 := fun j => rowA a b (j 0) (j 1)

/-- The code array. -/
def codeArr (a b : Vec Ideal S16384x2048 .f32) (g : Vec Ideal S1x2048 .f32) : Vec Ideal S16384x2048 .fp8e4m3 :=
  fun j => codeR (rowA a b (j 0)) (fun k => g (ix2 0 k)) (j 1)

/-- The scale column. -/
def scaleArr (a b : Vec Ideal S16384x2048 .f32) (g : Vec Ideal S1x2048 .f32) : Vec Ideal S16384x1 .f32 :=
  fun j => scaleR (amax (normR (rowA a b (j 0)) (fun k => g (ix2 0 k))))

/-! ## Where the blocks sit -/

/-- Every window's block index is `(0, 0)` at the one point. -/
theorem idx_facts : ∀ (t : Fin cfg0.N) (a : Fin 2), win0_0.index t a = 0 ∧ win0_1.index t a = 0 ∧ win0_2.index t a = 0
    ∧ win0_3.index t a = 0 ∧ win0_4.index t a = 0 ∧ win0_5.index t a = 0 ∧ win0_6.index t a = 0
    ∧ win0_7.index t a = 0 ∧ win0_8.index t a = 0 :=
  (by decide +kernel : ∀ (t : Fin grid0.N) (a : Fin 2), win0_0.index t a = 0 ∧ win0_1.index t a = 0 ∧ win0_2.index t a = 0
    ∧ win0_3.index t a = 0 ∧ win0_4.index t a = 0 ∧ win0_5.index t a = 0 ∧ win0_6.index t a = 0
    ∧ win0_7.index t a = 0 ∧ win0_8.index t a = 0)

/-- Window 0's block is its whole array. -/
theorem emb0 (t : Fin cfg0.N) (i : Fin 16384) (j : Fin 2048) : (win0_0.blk t).view.emb (ix2 i j) = ix2 i j := by
  funext a
  refine Fin.ext ?_
  match a with
  | ⟨0, _⟩ => exact Pipeline.Window.rect_emb_val_of_index_zero win0_0 t 0 (idx_facts t 0).1 (ix2 i j)
  | ⟨1, _⟩ => exact Pipeline.Window.rect_emb_val_of_index_zero win0_0 t 1 (idx_facts t 1).1 (ix2 i j)

/-- Window 1's block is its whole array. -/
theorem emb1 (t : Fin cfg0.N) (i : Fin 16384) (j : Fin 2048) : (win0_1.blk t).view.emb (ix2 i j) = ix2 i j := by
  funext a
  refine Fin.ext ?_
  match a with
  | ⟨0, _⟩ => exact Pipeline.Window.rect_emb_val_of_index_zero win0_1 t 0 (idx_facts t 0).2.1 (ix2 i j)
  | ⟨1, _⟩ => exact Pipeline.Window.rect_emb_val_of_index_zero win0_1 t 1 (idx_facts t 1).2.1 (ix2 i j)

/-- Window 2's block is its whole array. -/
theorem emb2 (t : Fin cfg0.N) (i : Fin 1) (j : Fin 2048) : (win0_2.blk t).view.emb (ix2 i j) = ix2 i j := by
  funext a
  refine Fin.ext ?_
  match a with
  | ⟨0, _⟩ => exact Pipeline.Window.rect_emb_val_of_index_zero win0_2 t 0 (idx_facts t 0).2.2.1 (ix2 i j)
  | ⟨1, _⟩ => exact Pipeline.Window.rect_emb_val_of_index_zero win0_2 t 1 (idx_facts t 1).2.2.1 (ix2 i j)

/-- Window 3's block is its whole array. -/
theorem emb3 (t : Fin cfg0.N) (i : Fin 2048) (j : Fin 6144) : (win0_3.blk t).view.emb (ix2 i j) = ix2 i j := by
  funext a
  refine Fin.ext ?_
  match a with
  | ⟨0, _⟩ => exact Pipeline.Window.rect_emb_val_of_index_zero win0_3 t 0 (idx_facts t 0).2.2.2.1 (ix2 i j)
  | ⟨1, _⟩ => exact Pipeline.Window.rect_emb_val_of_index_zero win0_3 t 1 (idx_facts t 1).2.2.2.1 (ix2 i j)

/-- Window 4's block is its whole array. -/
theorem emb4 (t : Fin cfg0.N) (i : Fin 1) (j : Fin 6144) : (win0_4.blk t).view.emb (ix2 i j) = ix2 i j := by
  funext a
  refine Fin.ext ?_
  match a with
  | ⟨0, _⟩ => exact Pipeline.Window.rect_emb_val_of_index_zero win0_4 t 0 (idx_facts t 0).2.2.2.2.1 (ix2 i j)
  | ⟨1, _⟩ => exact Pipeline.Window.rect_emb_val_of_index_zero win0_4 t 1 (idx_facts t 1).2.2.2.2.1 (ix2 i j)

/-- Window 5's block is its whole array. -/
theorem emb5 (t : Fin cfg0.N) (i : Fin 16384) (j : Fin 6144) : (win0_5.blk t).view.emb (ix2 i j) = ix2 i j := by
  funext a
  refine Fin.ext ?_
  match a with
  | ⟨0, _⟩ => exact Pipeline.Window.rect_emb_val_of_index_zero win0_5 t 0 (idx_facts t 0).2.2.2.2.2.1 (ix2 i j)
  | ⟨1, _⟩ => exact Pipeline.Window.rect_emb_val_of_index_zero win0_5 t 1 (idx_facts t 1).2.2.2.2.2.1 (ix2 i j)

/-- Window 6's block is its whole array. -/
theorem emb6 (t : Fin cfg0.N) (i : Fin 16384) (j : Fin 2048) : (win0_6.blk t).view.emb (ix2 i j) = ix2 i j := by
  funext a
  refine Fin.ext ?_
  match a with
  | ⟨0, _⟩ => exact Pipeline.Window.rect_emb_val_of_index_zero win0_6 t 0 (idx_facts t 0).2.2.2.2.2.2.1 (ix2 i j)
  | ⟨1, _⟩ => exact Pipeline.Window.rect_emb_val_of_index_zero win0_6 t 1 (idx_facts t 1).2.2.2.2.2.2.1 (ix2 i j)

/-- Window 7's block is its whole array. -/
theorem emb7 (t : Fin cfg0.N) (i : Fin 16384) (j : Fin 2048) : (win0_7.blk t).view.emb (ix2 i j) = ix2 i j := by
  funext a
  refine Fin.ext ?_
  match a with
  | ⟨0, _⟩ => exact Pipeline.Window.rect_emb_val_of_index_zero win0_7 t 0 (idx_facts t 0).2.2.2.2.2.2.2.1 (ix2 i j)
  | ⟨1, _⟩ => exact Pipeline.Window.rect_emb_val_of_index_zero win0_7 t 1 (idx_facts t 1).2.2.2.2.2.2.2.1 (ix2 i j)

/-- Window 8's block is its whole array. -/
theorem emb8 (t : Fin cfg0.N) (i : Fin 16384) (j : Fin 1) : (win0_8.blk t).view.emb (ix2 i j) = ix2 i j := by
  funext a
  refine Fin.ext ?_
  match a with
  | ⟨0, _⟩ => exact Pipeline.Window.rect_emb_val_of_index_zero win0_8 t 0 (idx_facts t 0).2.2.2.2.2.2.2.2 (ix2 i j)
  | ⟨1, _⟩ => exact Pipeline.Window.rect_emb_val_of_index_zero win0_8 t 1 (idx_facts t 1).2.2.2.2.2.2.2.2 (ix2 i j)

variable (m : (ℓ : Loc nD τ sig) → Buf (Elt Ideal) ℓ)

/-! ## The input blocks, read -/

theorem iblk0 (c : Dev nD) (t : Fin cfg0.N) (i : Fin 16384) (j : Fin 2048) : iblk m c 0 t (ix2 i j) = V m c main_v0 (ix2 i j) := by
  blk_simp [iblk]
  exact congrArg (V m c main_v0) (emb0 t i j)

theorem iblk1 (c : Dev nD) (t : Fin cfg0.N) (i : Fin 16384) (j : Fin 2048) : iblk m c 1 t (ix2 i j) = V m c main_v1 (ix2 i j) := by
  blk_simp [iblk]
  exact congrArg (V m c main_v1) (emb1 t i j)

theorem iblk2 (c : Dev nD) (t : Fin cfg0.N) (i : Fin 1) (j : Fin 2048) : iblk m c 2 t (ix2 i j) = V m c main_v2 (ix2 i j) := by
  blk_simp [iblk]
  exact congrArg (V m c main_v2) (emb2 t i j)

theorem iblk3 (c : Dev nD) (t : Fin cfg0.N) (i : Fin 2048) (j : Fin 6144) : iblk m c 3 t (ix2 i j) = V m c main_arg3 (ix2 i j) := by
  blk_simp [iblk]
  exact congrArg (V m c main_arg3) (emb3 t i j)

theorem iblk4 (c : Dev nD) (t : Fin cfg0.N) (i : Fin 1) (j : Fin 6144) : iblk m c 4 t (ix2 i j) = V m c main_v3 (ix2 i j) := by
  blk_simp [iblk]
  exact congrArg (V m c main_v3) (emb4 t i j)

/-- A row of the sum of the two blocks is the array's row. -/
theorem row_eq (c : Dev nD) (t : Fin cfg0.N) (i : Fin 16384) :
    Body.row (iblk m c 0 t) (iblk m c 1 t) i = rowA (V m c main_v0) (V m c main_v1) i :=
  funext fun k => congrArg₂ (fun p q : EReal => p + q) (iblk0 m c t i k) (iblk1 m c t i k)

/-- The gain block is the gain. -/
theorem gain_eq (c : Dev nD) (t : Fin cfg0.N) : Body.gain (iblk m c 2 t) = fun k => V m c main_v2 (ix2 0 k) :=
  funext fun k => iblk2 m c t 0 k

/-! ## The four arrays -/

/-- The product array after the run. -/
theorem final5 (c : Dev nD) : (dats m 0 c).arrAt 5 cfg0.N = yArr (V m c main_v0) (V m c main_v1) (V m c main_v2) (V m c main_arg3) (V m c main_v3) := by
  refine (dats m 0 c).arrAt_eq_of_covers 5 _ (by decide +kernel) fun t hf y => ?_
  blk_simp
  rw [after0_5]
  obtain ⟨i, j, rfl⟩ : ∃ (i : Fin 16384) (j : Fin 6144), y = ix2 i j := ⟨y 0, y 1, eq_ix2 y⟩
  refine (Body.out5_apply _ _ _ _ _ i j).trans ?_
  rw [row_eq, gain_eq, funext fun k => iblk3 m c t k j, iblk4 m c t 0 j]
  exact (congrArg (yArr (V m c main_v0) (V m c main_v1) (V m c main_v2) (V m c main_arg3) (V m c main_v3)) (emb5 t i j)).symm

/-- The residual sum after the run. -/
theorem final6 (c : Dev nD) : (dats m 0 c).arrAt 6 cfg0.N = rArr (V m c main_v0) (V m c main_v1) := by
  refine (dats m 0 c).arrAt_eq_of_covers 6 _ (by decide +kernel) fun t hf y => ?_
  blk_simp
  rw [after0_6]
  obtain ⟨i, j, rfl⟩ : ∃ (i : Fin 16384) (j : Fin 2048), y = ix2 i j := ⟨y 0, y 1, eq_ix2 y⟩
  refine (Body.out6_apply _ _ _ _ _ i j).trans ?_
  rw [row_eq]
  exact (congrArg (rArr (V m c main_v0) (V m c main_v1)) (emb6 t i j)).symm

/-- The code array after the run. -/
theorem final7 (c : Dev nD) : (dats m 0 c).arrAt 7 cfg0.N = codeArr (V m c main_v0) (V m c main_v1) (V m c main_v2) := by
  refine (dats m 0 c).arrAt_eq_of_covers 7 _ (by decide +kernel) fun t hf y => ?_
  blk_simp
  rw [after0_7]
  obtain ⟨i, j, rfl⟩ : ∃ (i : Fin 16384) (j : Fin 2048), y = ix2 i j := ⟨y 0, y 1, eq_ix2 y⟩
  refine (Body.out7_apply _ _ _ _ _ i j).trans ?_
  rw [row_eq, gain_eq]
  exact (congrArg (codeArr (V m c main_v0) (V m c main_v1) (V m c main_v2)) (emb7 t i j)).symm

/-- The scale column after the run. -/
theorem final8 (c : Dev nD) : (dats m 0 c).arrAt 8 cfg0.N = scaleArr (V m c main_v0) (V m c main_v1) (V m c main_v2) := by
  refine (dats m 0 c).arrAt_eq_of_covers 8 _ (by decide +kernel) fun t hf y => ?_
  blk_simp
  rw [after0_8]
  obtain ⟨i, j, rfl⟩ : ∃ (i : Fin 16384) (j : Fin 1), y = ix2 i j := ⟨y 0, y 1, eq_ix2 y⟩
  obtain rfl : j = 0 := Subsingleton.elim _ _
  refine (Body.out8_apply _ _ _ _ _ i).trans ?_
  rw [row_eq, gain_eq]
  exact (congrArg (scaleArr (V m c main_v0) (V m c main_v1) (V m c main_v2)) (emb8 t i 0)).symm

end Cert.ReferenceIdeal.Final

end
-- ==== Proof.Agree.lean ====
/- The two programs' runs with their four result arrays as functions of the argument arrays, and the equality of those
   functions where the gain is in a float's range. -/
module

public import proofs.«01_k».proof.Defs
public import proofs.«01_k».proof.Proof.KernelFinal
public import proofs.«01_k».proof.Proof.ReferenceFinal
public import Idealize.ShloMosaic.Lib.Claim

@[expose] public section

set_option maxRecDepth 16384

noncomputable section

open Idealize.ShloMosaic Idealize.ShloMosaic.TcCoe Idealize.SL.Sem
open Cert.Row Cert.Exponent

namespace Cert.KernelIdeal.Final

open Cert.KernelIdeal Cert.KernelIdeal.Gen

variable (m : (ℓ : Loc nD τ sig) → Buf (Elt Ideal) ℓ)

/-- The first input as the region reads it: the rows of the four batches one after the other. -/
def inX (c : Dev nD) : Vec Ideal S16384x2048 .f32 := shapeCast S16384x2048 (m ((c : Thread nD τ).loc main_arg0)) shapeCasts_S4x4096x2048_S16384x2048

/-- The second input as the region reads it. -/
def inRes (c : Dev nD) : Vec Ideal S16384x2048 .f32 := shapeCast S16384x2048 (m ((c : Thread nD τ).loc main_arg1)) shapeCasts_S4x4096x2048_S16384x2048

/-- The gain as the region reads it: one row. -/
def inGain (c : Dev nD) : Vec Ideal S1x2048 .f32 := shapeCast S1x2048 (m ((c : Thread nD τ).loc main_arg2)) shapeCasts_S2048_S1x2048

/-- The column scales as the region reads them: one row. -/
def inScale (c : Dev nD) : Vec Ideal S1x6144 .f32 := shapeCast S1x6144 (m ((c : Thread nD τ).loc main_arg4)) shapeCasts_S6144_S1x6144

theorem V0 (c : Dev nD) : V m c main_v0 = inX m c := by
  entry_read
  rfl

theorem V1 (c : Dev nD) : V m c main_v1 = inRes m c := by
  entry_read
  rfl

theorem V2 (c : Dev nD) : V m c main_v2 = inGain m c := by
  entry_read
  rfl

theorem V3 (c : Dev nD) : V m c main_v3 = inScale m c := by
  entry_read
  rfl

/-- The kernel's run: its four results are these functions of the arguments, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = yArr (inX m c) (inRes m c) (inGain m c) (m ((c : Thread nD τ).loc main_arg3)) (inScale m c)
      ∧ r.2.mem ((c : Thread nD τ).loc main_v4_1) = rArr (inX m c) (inRes m c)
      ∧ r.2.mem ((c : Thread nD τ).loc main_v4_2) = codeArr (inX m c) (inRes m c) (inGain m c)
      ∧ r.2.mem ((c : Thread nD τ).loc main_v4_3) = scaleArr (inX m c) (inRes m c) (inGain m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by rw [final5, V0, V1, V2, V3, V_main_arg3]),
      (h c).2.1.trans (by rw [final6, V0, V1]), (h c).2.2.1.trans (by rw [final7, V0, V1, V2]),
      (h c).2.2.2.1.trans (by rw [final8, V0, V1, V2]), (h c).2.2.2.2⟩)
    (Run.run_blocks m ρ)

end Cert.KernelIdeal.Final

namespace Cert.ReferenceIdeal.Final

open Cert.ReferenceIdeal Cert.ReferenceIdeal.Gen

variable (m : (ℓ : Loc nD τ sig) → Buf (Elt Ideal) ℓ)

/-- The first input as the region reads it: the rows of the four batches one after the other. -/
def inX (c : Dev nD) : Vec Ideal S16384x2048 .f32 := shapeCast S16384x2048 (m ((c : Thread nD τ).loc main_arg0)) shapeCasts_S4x4096x2048_S16384x2048

/-- The second input as the region reads it. -/
def inRes (c : Dev nD) : Vec Ideal S16384x2048 .f32 := shapeCast S16384x2048 (m ((c : Thread nD τ).loc main_arg1)) shapeCasts_S4x4096x2048_S16384x2048

/-- The gain as the region reads it: one row. -/
def inGain (c : Dev nD) : Vec Ideal S1x2048 .f32 := shapeCast S1x2048 (m ((c : Thread nD τ).loc main_arg2)) shapeCasts_S2048_S1x2048

/-- The column scales as the region reads them: one row. -/
def inScale (c : Dev nD) : Vec Ideal S1x6144 .f32 := shapeCast S1x6144 (m ((c : Thread nD τ).loc main_arg4)) shapeCasts_S6144_S1x6144

theorem V0 (c : Dev nD) : V m c main_v0 = inX m c := by
  entry_read
  rfl

theorem V1 (c : Dev nD) : V m c main_v1 = inRes m c := by
  entry_read
  rfl

theorem V2 (c : Dev nD) : V m c main_v2 = inGain m c := by
  entry_read
  rfl

theorem V3 (c : Dev nD) : V m c main_v3 = inScale m c := by
  entry_read
  rfl

/-- The reference's run: its four results are these functions of the arguments, and the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = yArr (inX m c) (inRes m c) (inGain m c) (m ((c : Thread nD τ).loc main_arg3)) (inScale m c)
      ∧ r.2.mem ((c : Thread nD τ).loc main_v4_1) = rArr (inX m c) (inRes m c)
      ∧ r.2.mem ((c : Thread nD τ).loc main_v4_2) = codeArr (inX m c) (inRes m c) (inGain m c)
      ∧ r.2.mem ((c : Thread nD τ).loc main_v4_3) = scaleArr (inX m c) (inRes m c) (inGain m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (by rw [final5, V0, V1, V2, V3, V_main_arg3]),
      (h c).2.1.trans (by rw [final6, V0, V1]), (h c).2.2.1.trans (by rw [final7, V0, V1, V2]),
      (h c).2.2.2.1.trans (by rw [final8, V0, V1, V2]), (h c).2.2.2.2⟩)
    (Run.run_blocks m ρ)

end Cert.ReferenceIdeal.Final

namespace Cert.Agree

open Cert.KernelIdeal

/-- The precondition's one stated fact: a scalar broadcasts to any shape. -/
theorem pre_facts : Cert.Pre_gain_float.Facts := ⟨by decide⟩

/-- The precondition, read: every element of the gain is in a float's range. -/
theorem pre_apply [Cert.Pre_gain_float.Facts] (x r : FVec Ideal S4x4096x2048 .f32) (g : FVec Ideal S2048 .f32) (w : FVec Ideal S2048x6144 .fp8e4m3) (u : FVec Ideal S6144 .f32)
    (h : Cert.Pre_gain_float.fn (F := Ideal) x r g w u = fun _ => 1#1) (j : S2048.Idx) :
    InRange (g j) := by
  have h1 : Cert.Pre_gain_float.fn (F := Ideal) x r g w u j = IntOp.ori (BitVec.ofBool (decide (max (g j) (-(g j)) ≤ Ideal.ofBits .f32 0x7F7FFFFF#32)))
      (BitVec.ofBool (decide (max (g j) (-(g j)) = Ideal.ofBits .f32 0x7F800000#32))) := rfl
  rw [h] at h1
  by_contra hc
  rw [InRange, not_or] at hc
  rw [decide_eq_false hc.1, decide_eq_false hc.2] at h1
  exact absurd (show (1#1 : BitVec 1) = IntOp.ori (BitVec.ofBool false) (BitVec.ofBool false) from h1) (by decide)

variable (a b : Vec Ideal S16384x2048 .f32) (g : Vec Ideal S1x2048 .f32) (w : Vec Ideal S2048x6144 .fp8e4m3) (u : Vec Ideal S1x6144 .f32)
  (hg : ∀ k : Fin 2048, InRange (g (ix2 0 k)))

include hg

/-- The products agree. -/
theorem yArr_eq : Cert.ReferenceIdeal.Final.yArr a b g w u = Final.yArr a b g w u :=
  funext fun j => (y_eq (Final.rowA a b (j 0)) (fun k => g (ix2 0 k)) hg (fun k => w (ix2 k (j 1))) (u (ix2 0 (j 1)))).symm

/-- The codes agree. -/
theorem codeArr_eq : Cert.ReferenceIdeal.Final.codeArr a b g = Final.codeArr a b g :=
  funext fun j => (code_eq (Final.rowA a b (j 0)) (fun k => g (ix2 0 k)) hg (j 1)).symm

/-- The scales agree. -/
theorem scaleArr_eq : Cert.ReferenceIdeal.Final.scaleArr a b g = Final.scaleArr a b g :=
  funext fun j => (row_scales (Final.rowA a b (j 0)) (fun k => g (ix2 0 k)) hg).1.symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- On the extended reals, where the gain is in a float's range, the kernel and the reference end with the same four arrays. -/
theorem algebraic [Cert.Pre_gain_float.Facts] :
    Cert.algebraic_KernelIdeal_ReferenceIdeal_pre_gain_float (hKernelIdeal := Cert.KernelIdeal.Gen.facts)
      (hReferenceIdeal := Cert.ReferenceIdeal.Gen.facts) := by
  intro m g m' g' hpre hagree
  refine ⟨_, _, _, _, Cert.KernelIdeal.Final.run m g, ?_⟩
  refine (θ_run Cert.ReferenceIdeal.defs _ _).mono (fun r h c => ?_) (Cert.ReferenceIdeal.Final.run m' g')
  obtain ⟨e0, e1, e2, e3, e4⟩ := hagree c
  obtain ⟨h0, h1, h2, h3, hargs⟩ := h c
  have hX : Cert.ReferenceIdeal.Final.inX m' c = Cert.KernelIdeal.Final.inX m c :=
    congrArg (fun v => shapeCast Cert.KernelIdeal.S16384x2048 v Cert.KernelIdeal.Gen.shapeCasts_S4x4096x2048_S16384x2048) e0
  have hR : Cert.ReferenceIdeal.Final.inRes m' c = Cert.KernelIdeal.Final.inRes m c :=
    congrArg (fun v => shapeCast Cert.KernelIdeal.S16384x2048 v Cert.KernelIdeal.Gen.shapeCasts_S4x4096x2048_S16384x2048) e1
  have hG : Cert.ReferenceIdeal.Final.inGain m' c = Cert.KernelIdeal.Final.inGain m c :=
    congrArg (fun v => shapeCast Cert.KernelIdeal.S1x2048 v Cert.KernelIdeal.Gen.shapeCasts_S2048_S1x2048) e2
  have hU : Cert.ReferenceIdeal.Final.inScale m' c = Cert.KernelIdeal.Final.inScale m c :=
    congrArg (fun v => shapeCast Cert.KernelIdeal.S1x6144 v Cert.KernelIdeal.Gen.shapeCasts_S6144_S1x6144) e4
  have hg : ∀ k : Fin 2048, Cert.Row.InRange (Cert.KernelIdeal.Final.inGain m c (ix2 0 k)) := fun k => Cert.Agree.pre_apply _ _ _ _ _ (hpre c) _
  refine ⟨?_, ?_, ?_, ?_, hargs⟩
  · rw [h0, hX, hR, hG, hU, e3]
    exact Cert.Agree.yArr_eq _ _ _ _ _ hg
  · rw [h1, hX, hR]
    rfl
  · rw [h2, hX, hR, hG]
    exact Cert.Agree.codeArr_eq _ _ _ hg
  · rw [h3, hX, hR, hG]
    exact Cert.Agree.scaleArr_eq _ _ _ hg

theorem claim : Cert.Claim := ⟨Cert.Kernel.Gen.facts, Cert.KernelIdeal.Gen.facts, Cert.ReferenceIdeal.Gen.facts, Cert.Agree.pre_facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  letI := Cert.Agree.pre_facts; algebraic⟩

end Cert.Proof

end
